-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_ok [hPre_inputs_ok : Cert.Pre_inputs_ok.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_ok [hPre_inputs_ok : Cert.Pre_inputs_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_inputs_ok [hKernelIdeal : Cert.KernelIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_inputs_ok [hReferenceIdeal : Cert.ReferenceIdeal.Facts] [hPre_inputs_ok : Cert.Pre_inputs_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_inputs_ok [hKernelIdeal : Cert.KernelIdeal.Facts] [hReferenceIdeal : Cert.ReferenceIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v18_0)) (v1 : (c : Dev Cert.KernelIdeal.nD) → Buf (Elt Ideal) ((c.tc : Thread Cert.KernelIdeal.nD Cert.KernelIdeal.τ).loc Cert.KernelIdeal.main_v18_2)) (v2 : (c : Dev Cert.KernelIdeal.nD) → Buf (Elt Ideal) ((c.tc : Thread Cert.KernelIdeal.nD Cert.KernelIdeal.τ).loc Cert.KernelIdeal.main_v18_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18_0) = v0 c
          ∧ r.2.mem ((c.tc : Thread Cert.KernelIdeal.nD Cert.KernelIdeal.τ).loc Cert.KernelIdeal.main_v18_2) = v1 c
          ∧ r.2.mem ((c.tc : Thread Cert.KernelIdeal.nD Cert.KernelIdeal.τ).loc Cert.KernelIdeal.main_v18_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10_13) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_v10_14) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_inputs_ok : Cert.Pre_inputs_ok.Facts),
    quiescent_Kernel (hKernel := hKernel)
    ∧ quiescent_KernelIdeal (hKernelIdeal := hKernelIdeal)
    ∧ quiescent_KernelIdeal_pre_inputs_ok (hKernelIdeal := hKernelIdeal) (hPre_inputs_ok := hPre_inputs_ok)
    ∧ quiescent_ReferenceIdeal (hReferenceIdeal := hReferenceIdeal)
    ∧ quiescent_ReferenceIdeal_pre_inputs_ok (hReferenceIdeal := hReferenceIdeal) (hPre_inputs_ok := hPre_inputs_ok)
    ∧ preserves_Kernel_KernelIdeal
    ∧ algebraic_KernelIdeal_ReferenceIdeal_pre_inputs_ok (hKernelIdeal := hKernelIdeal) (hReferenceIdeal := hReferenceIdeal) (hPre_inputs_ok := hPre_inputs_ok)
-- ==== Pre_inputs_ok.lean ====
abbrev S32x512x128 : Shape := ⟨3, ![32, 512, 128]⟩
abbrev S32x512 : Shape := ⟨2, ![32, 512]⟩
abbrev S128x128 : Shape := ⟨2, ![128, 128]⟩
abbrev S128 : Shape := ⟨1, ![128]⟩
abbrev S2x128 : Shape := ⟨2, ![2, 128]⟩
abbrev S_ : Shape := ⟨0, ![]⟩

class Facts : Prop where
  bcast_S_S32x512 : S_.BroadcastsInDim S32x512 (![] : Fin 0 → Fin S32x512.rank)
  reducesTo_S32x512_S_d0_1 : S32x512.ReducesTo [0, 1] S_
  h_S_ : 0 < S_.numel
  bcast_S_S32x512x128 : S_.BroadcastsInDim S32x512x128 (![] : Fin 0 → Fin S32x512x128.rank)
  reducesTo_S32x512x128_S_d0_1_2 : S32x512x128.ReducesTo [0, 1, 2] S_
  bcast_S_S2x128 : S_.BroadcastsInDim S2x128 (![] : Fin 0 → Fin S2x128.rank)
  reducesTo_S2x128_S_d0_1 : S2x128.ReducesTo [0, 1] S_

variable [Facts]

def fn_part2 {F : FTy → Type} [FloatOps F] (main_v30 : IVec S_ 1) (main_v31 : FVec F S2x128 .f32) (main_v32 : FVec F S2x128 .f32) : IVec S_ 1 :=
  let main_v33 : IVec S2x128 1 := cmpf .oeq main_v31 main_v32
  let main_c_13 : IVec S_ 1 := constantI S_ 1 1#1
  let main_v34 : IVec S_ 1 := (fun x v => Host.reduce IntOp.andi x v reducesTo_S2x128_S_d0_1 h_S_) main_v33 main_c_13
  let main_v35 : IVec S_ 1 := andi main_v30 main_v34
  main_v35

def fn_part1 {F : FTy → Type} [FloatOps F] (main_arg0 : FVec F S32x512x128 .f32) (main_arg2 : FVec F S32x512x128 .f32) (main_arg3 : FVec F S32x512x128 .f32) (main_arg7 : FVec F S2x128 .f32) (main_v9 : IVec S_ 1) (main_v15 : IVec S_ 1) : IVec S_ 1 :=
  let main_v16 : IVec S_ 1 := andi main_v9 main_v15
  let main_cst_6 : FVec F S_ .f32 := constant S_ .f32 0x00000000#32
  let main_v17 : FVec F S32x512x128 .f32 := broadcastInDim S32x512x128 ![] bcast_S_S32x512x128 main_cst_6
  let main_v18 : IVec S32x512x128 1 := cmpf .oge main_arg2 main_v17
  let main_c_7 : IVec S_ 1 := constantI S_ 1 1#1
  let main_v19 : IVec S_ 1 := (fun x v => Host.reduce IntOp.andi x v reducesTo_S32x512x128_S_d0_1_2 h_S_) main_v18 main_c_7
  let main_v20 : IVec S_ 1 := andi main_v16 main_v19
  let main_v21 : FVec F S32x512x128 .f32 := subf main_arg3 main_arg3
  let main_cst_8 : FVec F S_ .f32 := constant S_ .f32 0x00000000#32
  let main_v22 : FVec F S32x512x128 .f32 := broadcastInDim S32x512x128 ![] bcast_S_S32x512x128 main_cst_8
  let main_v23 : IVec S32x512x128 1 := cmpf .oeq main_v21 main_v22
  let main_c_9 : IVec S_ 1 := constantI S_ 1 1#1
  let main_v24 : IVec S_ 1 := (fun x v => Host.reduce IntOp.andi x v reducesTo_S32x512x128_S_d0_1_2 h_S_) main_v23 main_c_9
  let main_v25 : IVec S_ 1 := andi main_v20 main_v24
  let main_v26 : FVec F S32x512x128 .f32 := subf main_arg0 main_arg0
  let main_cst_10 : FVec F S_ .f32 := constant S_ .f32 0x00000000#32
  let main_v27 : FVec F S32x512x128 .f32 := broadcastInDim S32x512x128 ![] bcast_S_S32x512x128 main_cst_10
  let main_v28 : IVec S32x512x128 1 := cmpf .oeq main_v26 main_v27
  let main_c_11 : IVec S_ 1 := constantI S_ 1 1#1
  let main_v29 : IVec S_ 1 := (fun x v => Host.reduce IntOp.andi x v reducesTo_S32x512x128_S_d0_1_2 h_S_) main_v28 main_c_11
  let main_v30 : IVec S_ 1 := andi main_v25 main_v29
  let main_v31 : FVec F S2x128 .f32 := subf main_arg7 main_arg7
  let main_cst_12 : FVec F S_ .f32 := constant S_ .f32 0x00000000#32
  let main_v32 : FVec F S2x128 .f32 := broadcastInDim S2x128 ![] bcast_S_S2x128 main_cst_12
  fn_part2 (F := F) main_v30 main_v31 main_v32

def fn {F : FTy → Type} [FloatOps F] (main_arg0 : FVec F S32x512x128 .f32) (main_arg1 : FVec F S32x512 .f32) (main_arg2 : FVec F S32x512x128 .f32) (main_arg3 : FVec F S32x512x128 .f32) (main_arg4 : FVec F S128x128 .f32) (main_arg5 : FVec F S128x128 .f32) (main_arg6 : FVec F S128 .f32) (main_arg7 : FVec F S2x128 .f32) (main_arg8 : IVec S32x512x128 32) (main_arg9 : IVec S32x512x128 32) : IVec S_ 1 :=
  let main_cst : FVec F S_ .f32 := constant S_ .f32 0x3F800000#32
  let main_v0 : FVec F S32x512 .f32 := broadcastInDim S32x512 ![] bcast_S_S32x512 main_cst
  let main_v1 : IVec S32x512 1 := cmpf .oeq main_arg1 main_v0
  let main_c : IVec S_ 1 := constantI S_ 1 1#1
  let main_v2 : IVec S_ 1 := (fun x v => Host.reduce IntOp.andi x v reducesTo_S32x512_S_d0_1 h_S_) main_v1 main_c
  let main_c_0 : IVec S_ 32 := constantI S_ 32 0#32
  let main_v3 : IVec S32x512x128 32 := broadcastInDim S32x512x128 ![] bcast_S_S32x512x128 main_c_0
  let main_v4 : IVec S32x512x128 1 := cmpi .eq main_arg8 main_v3
  let main_c_1 : IVec S_ 32 := constantI S_ 32 1#32
  let main_v5 : IVec S32x512x128 32 := broadcastInDim S32x512x128 ![] bcast_S_S32x512x128 main_c_1
  let main_v6 : IVec S32x512x128 1 := cmpi .eq main_arg8 main_v5
  let main_v7 : IVec S32x512x128 1 := ori main_v4 main_v6
  let main_c_2 : IVec S_ 1 := constantI S_ 1 1#1
  let main_v8 : IVec S_ 1 := (fun x v => Host.reduce IntOp.andi x v reducesTo_S32x512x128_S_d0_1_2 h_S_) main_v7 main_c_2
  let main_v9 : IVec S_ 1 := andi main_v2 main_v8
  let main_c_3 : IVec S_ 32 := constantI S_ 32 0#32
  let main_v10 : IVec S32x512x128 32 := broadcastInDim S32x512x128 ![] bcast_S_S32x512x128 main_c_3
  let main_v11 : IVec S32x512x128 1 := cmpi .eq main_arg9 main_v10
  let main_c_4 : IVec S_ 32 := constantI S_ 32 1#32
  let main_v12 : IVec S32x512x128 32 := broadcastInDim S32x512x128 ![] bcast_S_S32x512x128 main_c_4
  let main_v13 : IVec S32x512x128 1 := cmpi .eq main_arg9 main_v12
  let main_v14 : IVec S32x512x128 1 := ori main_v11 main_v13
  let main_c_5 : IVec S_ 1 := constantI S_ 1 1#1
  let main_v15 : IVec S_ 1 := (fun x v => Host.reduce IntOp.andi x v reducesTo_S32x512x128_S_d0_1_2 h_S_) main_v14 main_c_5
  fn_part1 (F := F) main_arg0 main_arg2 main_arg3 main_arg7 main_v9 main_v15
-- ==== Kernel.lean ====
abbrev S32x512x128 : Shape := ⟨3, ![32, 512, 128]⟩
abbrev S32x512 : Shape := ⟨2, ![32, 512]⟩
abbrev S128x128 : Shape := ⟨2, ![128, 128]⟩
abbrev S128 : Shape := ⟨1, ![128]⟩
abbrev S2x128 : Shape := ⟨2, ![2, 128]⟩
abbrev S512x32x128 : Shape := ⟨3, ![512, 32, 128]⟩
abbrev S1x128 : Shape := ⟨2, ![1, 128]⟩
abbrev S64x128 : Shape := ⟨2, ![64, 128]⟩
abbrev S1x64x1x128 : Shape := ⟨4, ![1, 64, 1, 128]⟩
abbrev S16x64x1x128 : Shape := ⟨4, ![16, 64, 1, 128]⟩
abbrev S1024x128 : Shape := ⟨2, ![1024, 128]⟩
abbrev S2048x128 : Shape := ⟨2, ![2048, 128]⟩
abbrev S512x32x2 : Shape := ⟨3, ![512, 32, 2]⟩
abbrev S128x2048 : Shape := ⟨2, ![128, 2048]⟩
abbrev S16x32x128 : Shape := ⟨3, ![16, 32, 128]⟩
abbrev S16x32x2 : Shape := ⟨3, ![16, 32, 2]⟩
abbrev S128x1024 : Shape := ⟨2, ![128, 1024]⟩
abbrev S512x128 : Shape := ⟨2, ![512, 128]⟩
abbrev S512x2 : Shape := ⟨2, ![512, 2]⟩
abbrev S16x1024 : Shape := ⟨2, ![16, 1024]⟩
abbrev S32x1024 : Shape := ⟨2, ![32, 1024]⟩
abbrev S1024x64 : Shape := ⟨2, ![1024, 64]⟩
abbrev S64x1024 : Shape := ⟨2, ![64, 1024]⟩
abbrev S512x1 : Shape := ⟨2, ![512, 1]⟩
abbrev S512 : Shape := ⟨1, ![512]⟩
abbrev S1536x128 : Shape := ⟨2, ![1536, 128]⟩
abbrev S128x1536 : Shape := ⟨2, ![128, 1536]⟩
abbrev S16x128 : Shape := ⟨2, ![16, 128]⟩
abbrev S32x128 : Shape := ⟨2, ![32, 128]⟩
abbrev S128x16 : Shape := ⟨2, ![128, 16]⟩
abbrev S128x32 : Shape := ⟨2, ![128, 32]⟩
abbrev S32x32 : Shape := ⟨2, ![32, 32]⟩
abbrev S16x2048 : Shape := ⟨2, ![16, 2048]⟩
abbrev S32x64 : Shape := ⟨2, ![32, 64]⟩
abbrev S16x64 : Shape := ⟨2, ![16, 64]⟩
abbrev S1x32x128 : Shape := ⟨3, ![1, 32, 128]⟩

abbrev nBuf : Space → Nat
  | .hbm => 31
  | .vmem => 22
  | .smem => 0
  | _ => 0

abbrev bufTy : (tb : Table) → Fin (tcTables nBuf tb) → BufTy
  | .hbm, ⟨0, _⟩ => ⟨S32x512x128, .f32⟩
  | .hbm, ⟨1, _⟩ => ⟨S32x512, .f32⟩
  | .hbm, ⟨2, _⟩ => ⟨S32x512x128, .f32⟩
  | .hbm, ⟨3, _⟩ => ⟨S32x512x128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S2x128, .f32⟩
  | .hbm, ⟨8, _⟩ => ⟨S32x512x128, .i32⟩
  | .hbm, ⟨9, _⟩ => ⟨S32x512x128, .i32⟩
  | .hbm, ⟨10, _⟩ => ⟨S512x32x128, .f32⟩
  | .hbm, ⟨11, _⟩ => ⟨S512x32x128, .f32⟩
  | .hbm, ⟨12, _⟩ => ⟨S512x32x128, .f32⟩
  | .hbm, ⟨13, _⟩ => ⟨S512x32x128, .i32⟩
  | .hbm, ⟨14, _⟩ => ⟨S512x32x128, .f32⟩
  | .hbm, ⟨15, _⟩ => ⟨S512x32x128, .i32⟩
  | .hbm, ⟨16, _⟩ => ⟨S512x32x128, .f32⟩
  | .hbm, ⟨17, _⟩ => ⟨S1x128, .f32⟩
  | .hbm, ⟨18, _⟩ => ⟨S64x128, .f32⟩
  | .hbm, ⟨19, _⟩ => ⟨S1x64x1x128, .f32⟩
  | .hbm, ⟨20, _⟩ => ⟨S16x64x1x128, .f32⟩
  | .hbm, ⟨21, _⟩ => ⟨S1024x128, .f32⟩
  | .hbm, ⟨22, _⟩ => ⟨S64x128, .f32⟩
  | .hbm, ⟨23, _⟩ => ⟨S1x64x1x128, .f32⟩
  | .hbm, ⟨24, _⟩ => ⟨S16x64x1x128, .f32⟩
  | .hbm, ⟨25, _⟩ => ⟨S1024x128, .f32⟩
  | .hbm, ⟨26, _⟩ => ⟨S2048x128, .f32⟩
  | .hbm, ⟨27, _⟩ => ⟨S2048x128, .bf16⟩
  | .hbm, ⟨28, _⟩ => ⟨S512x32x128, .f32⟩
  | .hbm, ⟨29, _⟩ => ⟨S512x32x2, .f32⟩
  | .hbm, ⟨30, _⟩ => ⟨S128x2048, .f32⟩
  | .local _ .vmem, ⟨0, _⟩ => ⟨S16x32x128, .f32⟩
  | .local _ .vmem, ⟨1, _⟩ => ⟨S16x32x128, .f32⟩
  | .local _ .vmem, ⟨2, _⟩ => ⟨S16x32x128, .f32⟩
  | .local _ .vmem, ⟨3, _⟩ => ⟨S16x32x128, .f32⟩
  | .local _ .vmem, ⟨4, _⟩ => ⟨S16x32x128, .f32⟩
  | .local _ .vmem, ⟨5, _⟩ => ⟨S16x32x128, .f32⟩
  | .local _ .vmem, ⟨6, _⟩ => ⟨S16x32x128, .f32⟩
  | .local _ .vmem, ⟨7, _⟩ => ⟨S16x32x128, .f32⟩
  | .local _ .vmem, ⟨8, _⟩ => ⟨S16x32x128, .f32⟩
  | .local _ .vmem, ⟨9, _⟩ => ⟨S16x32x128, .f32⟩
  | .local _ .vmem, ⟨10, _⟩ => ⟨S128x128, .f32⟩
  | .local _ .vmem, ⟨11, _⟩ => ⟨S128x128, .f32⟩
  | .local _ .vmem, ⟨12, _⟩ => ⟨S1x128, .f32⟩
  | .local _ .vmem, ⟨13, _⟩ => ⟨S2x128, .f32⟩
  | .local _ .vmem, ⟨14, _⟩ => ⟨S2048x128, .bf16⟩
  | .local _ .vmem, ⟨15, _⟩ => ⟨S16x32x128, .f32⟩
  | .local _ .vmem, ⟨16, _⟩ => ⟨S16x32x128, .f32⟩
  | .local _ .vmem, ⟨17, _⟩ => ⟨S16x32x2, .f32⟩
  | .local _ .vmem, ⟨18, _⟩ => ⟨S16x32x2, .f32⟩
  | .local _ .vmem, ⟨19, _⟩ => ⟨S128x2048, .f32⟩
  | .local _ .vmem, ⟨20, _⟩ => ⟨S128x1024, .bf16⟩
  | .local _ .vmem, ⟨21, _⟩ => ⟨S128x1024, .bf16⟩
  | _, _ => ⟨S32x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18_0 : Ref sig .tc := ⟨.hbm, 28, rfl⟩
abbrev main_v18_1 : Ref sig .tc := ⟨.hbm, 29, rfl⟩
abbrev main_v18_2 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v2060 : BitVec 1 := Scalar.cmpi .eq arg0 c31_i32
  let v2061 : BitVec 32 := Scalar.extui v2060
  let c0_i32_557 : BitVec 32 := 0#32
  let v2062 : BitVec 1 := Scalar.cmpi .ne v2061 c0_i32_557
  v2062

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x32x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S16x32x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S16x32x2 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S128x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S32x512x128 : Shape := ⟨3, ![32, 512, 128]⟩
abbrev S32x512 : Shape := ⟨2, ![32, 512]⟩
abbrev S128x128 : Shape := ⟨2, ![128, 128]⟩
abbrev S128 : Shape := ⟨1, ![128]⟩
abbrev S2x128 : Shape := ⟨2, ![2, 128]⟩
abbrev S512x32x128 : Shape := ⟨3, ![512, 32, 128]⟩
abbrev S512x32 : Shape := ⟨2, ![512, 32]⟩
abbrev S_ : Shape := ⟨0, ![]⟩
abbrev S32x128x64 : Shape := ⟨3, ![32, 128, 64]⟩
abbrev S32x2 : Shape := ⟨2, ![32, 2]⟩
abbrev S512x32x2 : Shape := ⟨3, ![512, 32, 2]⟩
abbrev S1x32x128 : Shape := ⟨3, ![1, 32, 128]⟩
abbrev S32x128 : Shape := ⟨2, ![32, 128]⟩
abbrev S1x32 : Shape := ⟨2, ![1, 32]⟩
abbrev S32 : Shape := ⟨1, ![32]⟩
abbrev S32x128x1 : Shape := ⟨3, ![32, 128, 1]⟩
abbrev S1x1x2 : Shape := ⟨3, ![1, 1, 2]⟩
abbrev S32x128x2 : Shape := ⟨3, ![32, 128, 2]⟩
abbrev S32x128x128 : Shape := ⟨3, ![32, 128, 128]⟩
abbrev S32x1 : Shape := ⟨2, ![32, 1]⟩
abbrev S32x2x64 : Shape := ⟨3, ![32, 2, 64]⟩
abbrev S1x128 : Shape := ⟨2, ![1, 128]⟩
abbrev S32x1x1 : Shape := ⟨3, ![32, 1, 1]⟩
abbrev S1x32x2 : Shape := ⟨3, ![1, 32, 2]⟩
abbrev S128x32x64 : Shape := ⟨3, ![128, 32, 64]⟩
abbrev S128x2048 : Shape := ⟨2, ![128, 2048]⟩

abbrev nBuf : Space → Nat
  | .hbm => 174
  | .vmem => 0
  | .smem => 0
  | _ => 0

abbrev hbmTy0_0 (i : Nat) : BufTy := match i % 128 with
  | 0 => ⟨S32x512x128, .f32⟩
  | 1 => ⟨S32x512, .f32⟩
  | 2 => ⟨S32x512x128, .f32⟩
  | 3 => ⟨S32x512x128, .f32⟩
  | 4 => ⟨S128x128, .f32⟩
  | 5 => ⟨S128x128, .f32⟩
  | 6 => ⟨S128, .f32⟩
  | 7 => ⟨S2x128, .f32⟩
  | 8 => ⟨S32x512x128, .i32⟩
  | 9 => ⟨S32x512x128, .i32⟩
  | 10 => ⟨S512x32x128, .f32⟩
  | 11 => ⟨S512x32, .f32⟩
  | 12 => ⟨S512x32x128, .f32⟩
  | 13 => ⟨S512x32x128, .f32⟩
  | 14 => ⟨S512x32x128, .i32⟩
  | 15 => ⟨S512x32x128, .i32⟩
  | 16 => ⟨S_, .f32⟩
  | 17 => ⟨S32x128x64, .f32⟩
  | 18 => ⟨S_, .f32⟩
  | 19 => ⟨S32x2, .f32⟩
  | 20 => ⟨S_, .f32⟩
  | 21 => ⟨S512x32x128, .f32⟩
  | 22 => ⟨S_, .f32⟩
  | 23 => ⟨S512x32x2, .f32⟩
  | 24 => ⟨S_, .i32⟩
  | 25 => ⟨S512x32x128, .f32⟩
  | 26 => ⟨S512x32, .f32⟩
  | 27 => ⟨S512x32x128, .f32⟩
  | 28 => ⟨S512x32x128, .f32⟩
  | 29 => ⟨S512x32x128, .i32⟩
  | 30 => ⟨S512x32x128, .i32⟩
  | 31 => ⟨S2x128, .f32⟩
  | 32 => ⟨S128x128, .f32⟩
  | 33 => ⟨S128x128, .f32⟩
  | 34 => ⟨S128, .f32⟩
  | 35 => ⟨S_, .i32⟩
  | 36 => ⟨S32x128x64, .f32⟩
  | 37 => ⟨S32x2, .f32⟩
  | 38 => ⟨S512x32x128, .f32⟩
  | 39 => ⟨S512x32x2, .f32⟩
  | 40 => ⟨S_, .i32⟩
  | 41 => ⟨S_, .i1⟩
  | 42 => ⟨S_, .i32⟩
  | 43 => ⟨S_, .i32⟩
  | 44 => ⟨S1x32x128, .f32⟩
  | 45 => ⟨S32x128, .f32⟩
  | 46 => ⟨S_, .i32⟩
  | 47 => ⟨S1x32, .f32⟩
  | 48 => ⟨S32, .f32⟩
  | 49 => ⟨S_, .i32⟩
  | 50 => ⟨S_, .i32⟩
  | 51 => ⟨S1x32x128, .f32⟩
  | 52 => ⟨S32x128, .f32⟩
  | 53 => ⟨S_, .i32⟩
  | 54 => ⟨S_, .i32⟩
  | 55 => ⟨S1x32x128, .f32⟩
  | 56 => ⟨S32x128, .f32⟩
  | 57 => ⟨S_, .i32⟩
  | 58 => ⟨S_, .i32⟩
  | 59 => ⟨S1x32x128, .i32⟩
  | 60 => ⟨S32x128, .i32⟩
  | 61 => ⟨S_, .i32⟩
  | 62 => ⟨S_, .i32⟩
  | 63 => ⟨S1x32x128, .i32⟩
  | 64 => ⟨S32x128, .i32⟩
  | 65 => ⟨S32x128x1, .i32⟩
  | 66 => ⟨S1x1x2, .i32⟩
  | 67 => ⟨S32x128x2, .i32⟩
  | 68 => ⟨S32x128x2, .i32⟩
  | 69 => ⟨S32x128x2, .i1⟩
  | 70 => ⟨S32x128x2, .f32⟩
  | 71 => ⟨S32x128x128, .f32⟩
  | 72 => ⟨S32x128, .f32⟩
  | 73 => ⟨S32x128, .f32⟩
  | 74 => ⟨S32x128, .f32⟩
  | 75 => ⟨S_, .f32⟩
  | 76 => ⟨S32, .f32⟩
  | 77 => ⟨S32x1, .f32⟩
  | 78 => ⟨S_, .f32⟩
  | 79 => ⟨S32x1, .f32⟩
  | 80 => ⟨S32x1, .f32⟩
  | 81 => ⟨S32x128, .f32⟩
  | 82 => ⟨S32x128, .f32⟩
  | 83 => ⟨S32x2, .f32⟩
  | 84 => ⟨S32x128x1, .f32⟩
  | 85 => ⟨S32x128x2, .f32⟩
  | 86 => ⟨S32x128x2, .f32⟩
  | 87 => ⟨S32x2x64, .f32⟩
  | 88 => ⟨S32x128, .f32⟩
  | 89 => ⟨S32x128, .f32⟩
  | 90 => ⟨S32x128, .f32⟩
  | 91 => ⟨S32x128, .f32⟩
  | 92 => ⟨S1x128, .f32⟩
  | 93 => ⟨S32x128, .f32⟩
  | 94 => ⟨S32x128, .f32⟩
  | 95 => ⟨S32x128, .f32⟩
  | 96 => ⟨S32x128, .f32⟩
  | 97 => ⟨S_, .f32⟩
  | 98 => ⟨S32x128, .f32⟩
  | 99 => ⟨S32x128, .f32⟩
  | 100 => ⟨S_, .f32⟩
  | 101 => ⟨S32x128, .f32⟩
  | 102 => ⟨S32x128, .f32⟩
  | 103 => ⟨S32x128, .f32⟩
  | 104 => ⟨S1x128, .f32⟩
  | 105 => ⟨S32x128, .f32⟩
  | 106 => ⟨S32x128, .f32⟩
  | 107 => ⟨S32x128, .f32⟩
  | 108 => ⟨S32x128, .f32⟩
  | 109 => ⟨S_, .f32⟩
  | 110 => ⟨S32x128, .f32⟩
  | 111 => ⟨S32x128, .f32⟩
  | 112 => ⟨S_, .f32⟩
  | 113 => ⟨S32x128, .f32⟩
  | 114 => ⟨S32x128, .f32⟩
  | 115 => ⟨S32x128, .f32⟩
  | 116 => ⟨S32x128, .f32⟩
  | 117 => ⟨S32x128, .f32⟩
  | 118 => ⟨S1x128, .f32⟩
  | 119 => ⟨S32x128, .f32⟩
  | 120 => ⟨S32x128, .f32⟩
  | 121 => ⟨S32x128, .f32⟩
  | 122 => ⟨S32x128, .f32⟩
  | 123 => ⟨S_, .f32⟩
  | 124 => ⟨S32x128, .f32⟩
  | 125 => ⟨S32x128, .f32⟩
  | 126 => ⟨S32x128, .f32⟩
  | 127 => ⟨S32x128, .f32⟩
  | _ => ⟨S32x512x128, .f32⟩

abbrev hbmTy0_1 (i : Nat) : BufTy := match i % 128 with
  | 0 => ⟨S32x1, .f32⟩
  | 1 => ⟨S32x128, .f32⟩
  | 2 => ⟨S32x128, .f32⟩
  | 3 => ⟨S32x2x64, .f32⟩
  | 4 => ⟨S32x128x1, .i32⟩
  | 5 => ⟨S1x1x2, .i32⟩
  | 6 => ⟨S32x128x2, .i32⟩
  | 7 => ⟨S32x128x2, .i32⟩
  | 8 => ⟨S32x128x2, .i1⟩
  | 9 => ⟨S32x128x2, .f32⟩
  | 10 => ⟨S32x128x64, .f32⟩
  | 11 => ⟨S32x128x1, .f32⟩
  | 12 => ⟨S32x128x64, .f32⟩
  | 13 => ⟨S32x128x64, .f32⟩
  | 14 => ⟨S32x128x1, .f32⟩
  | 15 => ⟨S_, .f32⟩
  | 16 => ⟨S32x128x1, .f32⟩
  | 17 => ⟨S32x128x1, .f32⟩
  | 18 => ⟨S32x128x64, .f32⟩
  | 19 => ⟨S32x128x64, .f32⟩
  | 20 => ⟨S32x128x64, .f32⟩
  | 21 => ⟨S32x1x1, .f32⟩
  | 22 => ⟨S32x128x64, .f32⟩
  | 23 => ⟨S32x128x64, .f32⟩
  | 24 => ⟨S32x1x1, .f32⟩
  | 25 => ⟨S_, .f32⟩
  | 26 => ⟨S32x1x1, .f32⟩
  | 27 => ⟨S32x1x1, .f32⟩
  | 28 => ⟨S32x128x64, .f32⟩
  | 29 => ⟨S32x128x64, .f32⟩
  | 30 => ⟨S32x128x64, .f32⟩
  | 31 => ⟨S32x1, .f32⟩
  | 32 => ⟨S32x2, .f32⟩
  | 33 => ⟨S32x2, .f32⟩
  | 34 => ⟨S1x32x128, .f32⟩
  | 35 => ⟨S_, .i32⟩
  | 36 => ⟨S_, .i32⟩
  | 37 => ⟨S512x32x128, .f32⟩
  | 38 => ⟨S1x32x2, .f32⟩
  | 39 => ⟨S_, .i32⟩
  | 40 => ⟨S_, .i32⟩
  | 41 => ⟨S512x32x2, .f32⟩
  | 42 => ⟨S_, .i32⟩
  | 43 => ⟨S_, .i32⟩
  | 44 => ⟨S128x32x64, .f32⟩
  | 45 => ⟨S128x2048, .f32⟩
  | _ => ⟨S32x512x128, .f32⟩

abbrev hbmTy (i : Nat) : BufTy := match i / 128 with
  | 0 => hbmTy0_0 i
  | 1 => hbmTy0_1 i
  | _ => ⟨S32x512x128, .f32⟩

abbrev bufTy : (tb : Table) → Fin (tcTables nBuf tb) → BufTy
  | .hbm, ⟨i, _⟩ => hbmTy i
  | _, _ => ⟨S32x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_c : Ref sig .tc := ⟨.hbm, 24, rfl⟩
abbrev main_v10_0 : Ref sig .tc := ⟨.hbm, 25, rfl⟩
abbrev main_v10_1 : Ref sig .tc := ⟨.hbm, 26, rfl⟩
abbrev main_v10_2 : Ref sig .tc := ⟨.hbm, 27, rfl⟩
abbrev main_v10_3 : Ref sig .tc := ⟨.hbm, 28, rfl⟩
abbrev main_v10_4 : Ref sig .tc := ⟨.hbm, 29, rfl⟩
abbrev main_v10_5 : Ref sig .tc := ⟨.hbm, 30, rfl⟩
abbrev main_v10_6 : Ref sig .tc := ⟨.hbm, 31, rfl⟩
abbrev main_v10_7 : Ref sig .tc := ⟨.hbm, 32, rfl⟩
abbrev main_v10_8 : Ref sig .tc := ⟨.hbm, 33, rfl⟩
abbrev main_v10_9 : Ref sig .tc := ⟨.hbm, 34, rfl⟩
abbrev main_v10_10 : Ref sig .tc := ⟨.hbm, 35, rfl⟩
abbrev main_v10_11 : Ref sig .tc := ⟨.hbm, 36, rfl⟩
abbrev main_v10_12 : Ref sig .tc := ⟨.hbm, 37, rfl⟩
abbrev main_v10_13 : Ref sig .tc := ⟨.hbm, 38, rfl⟩
abbrev main_v10_14 : Ref sig .tc := ⟨.hbm, 39, rfl⟩
abbrev main_while0c_c_17 : Ref sig .tc := ⟨.hbm, 40, rfl⟩
abbrev main_while0c_v13 : Ref sig .tc := ⟨.hbm, 41, rfl⟩
abbrev main_while0b_call0_c : Ref sig .tc := ⟨.hbm, 42, rfl⟩
abbrev main_while0b_call0_c_0 : Ref sig .tc := ⟨.hbm, 43, rfl⟩
abbrev main_while0b_call0_v0 : Ref sig .tc := ⟨.hbm, 44, rfl⟩
abbrev main_while0b_v13 : Ref sig .tc := ⟨.hbm, 45, rfl⟩
abbrev main_while0b_call1_c : Ref sig .tc := ⟨.hbm, 46, rfl⟩
abbrev main_while0b_call1_v0 : Ref sig .tc := ⟨.hbm, 47, rfl⟩
abbrev main_while0b_v14 : Ref sig .tc := ⟨.hbm, 48, rfl⟩
abbrev main_while0b_call2_c : Ref sig .tc := ⟨.hbm, 49, rfl⟩
abbrev main_while0b_call2_c_0 : Ref sig .tc := ⟨.hbm, 50, rfl⟩
abbrev main_while0b_call2_v0 : Ref sig .tc := ⟨.hbm, 51, rfl⟩
abbrev main_while0b_v15 : Ref sig .tc := ⟨.hbm, 52, rfl⟩
abbrev main_while0b_call3_c : Ref sig .tc := ⟨.hbm, 53, rfl⟩
abbrev main_while0b_call3_c_0 : Ref sig .tc := ⟨.hbm, 54, rfl⟩
abbrev main_while0b_call3_v0 : Ref sig .tc := ⟨.hbm, 55, rfl⟩
abbrev main_while0b_v16 : Ref sig .tc := ⟨.hbm, 56, rfl⟩
abbrev main_while0b_call4_c : Ref sig .tc := ⟨.hbm, 57, rfl⟩
abbrev main_while0b_call4_c_0 : Ref sig .tc := ⟨.hbm, 58, rfl⟩
abbrev main_while0b_call4_v0 : Ref sig .tc := ⟨.hbm, 59, rfl⟩
abbrev main_while0b_v17 : Ref sig .tc := ⟨.hbm, 60, rfl⟩
abbrev main_while0b_call5_c : Ref sig .tc := ⟨.hbm, 61, rfl⟩
abbrev main_while0b_call5_c_0 : Ref sig .tc := ⟨.hbm, 62, rfl⟩
abbrev main_while0b_call5_v0 : Ref sig .tc := ⟨.hbm, 63, rfl⟩
abbrev main_while0b_v18 : Ref sig .tc := ⟨.hbm, 64, rfl⟩
abbrev main_while0b_call6_v0 : Ref sig .tc := ⟨.hbm, 65, rfl⟩
abbrev main_while0b_call6_v1 : Ref sig .tc := ⟨.hbm, 66, rfl⟩
abbrev main_while0b_call6_v2 : Ref sig .tc := ⟨.hbm, 67, rfl⟩
abbrev main_while0b_call6_v3 : Ref sig .tc := ⟨.hbm, 68, rfl⟩
abbrev main_while0b_call6_v4 : Ref sig .tc := ⟨.hbm, 69, rfl⟩
abbrev main_while0b_v19 : Ref sig .tc := ⟨.hbm, 70, rfl⟩
abbrev main_while0b_v20 : Ref sig .tc := ⟨.hbm, 71, rfl⟩
abbrev main_while0b_v21 : Ref sig .tc := ⟨.hbm, 72, rfl⟩
abbrev main_while0b_v22 : Ref sig .tc := ⟨.hbm, 73, rfl⟩
abbrev main_while0b_v23 : Ref sig .tc := ⟨.hbm, 74, rfl⟩
abbrev main_while0b_cst_17 : Ref sig .tc := ⟨.hbm, 75, rfl⟩
abbrev main_while0b_v24 : Ref sig .tc := ⟨.hbm, 76, rfl⟩
abbrev main_while0b_v25 : Ref sig .tc := ⟨.hbm, 77, rfl⟩
abbrev main_while0b_cst_18 : Ref sig .tc := ⟨.hbm, 78, rfl⟩
abbrev main_while0b_v26 : Ref sig .tc := ⟨.hbm, 79, rfl⟩
abbrev main_while0b_v27 : Ref sig .tc := ⟨.hbm, 80, rfl⟩
abbrev main_while0b_v28 : Ref sig .tc := ⟨.hbm, 81, rfl⟩
abbrev main_while0b_v29 : Ref sig .tc := ⟨.hbm, 82, rfl⟩
abbrev main_while0b_v30 : Ref sig .tc := ⟨.hbm, 83, rfl⟩
abbrev main_while0b_v31 : Ref sig .tc := ⟨.hbm, 84, rfl⟩
abbrev main_while0b_v32 : Ref sig .tc := ⟨.hbm, 85, rfl⟩
abbrev main_while0b_v33 : Ref sig .tc := ⟨.hbm, 86, rfl⟩
abbrev main_while0b_v34 : Ref sig .tc := ⟨.hbm, 87, rfl⟩
abbrev main_while0b_v35 : Ref sig .tc := ⟨.hbm, 88, rfl⟩
abbrev main_while0b_v36 : Ref sig .tc := ⟨.hbm, 89, rfl⟩
abbrev main_while0b_v37 : Ref sig .tc := ⟨.hbm, 90, rfl⟩
abbrev main_while0b_v38 : Ref sig .tc := ⟨.hbm, 91, rfl⟩
abbrev main_while0b_v39 : Ref sig .tc := ⟨.hbm, 92, rfl⟩
abbrev main_while0b_v40 : Ref sig .tc := ⟨.hbm, 93, rfl⟩
abbrev main_while0b_v41 : Ref sig .tc := ⟨.hbm, 94, rfl⟩
abbrev main_while0b_v42 : Ref sig .tc := ⟨.hbm, 95, rfl⟩
abbrev main_while0b_v43 : Ref sig .tc := ⟨.hbm, 96, rfl⟩
abbrev main_while0b_cst_19 : Ref sig .tc := ⟨.hbm, 97, rfl⟩
abbrev main_while0b_v44 : Ref sig .tc := ⟨.hbm, 98, rfl⟩
abbrev main_while0b_v45 : Ref sig .tc := ⟨.hbm, 99, rfl⟩
abbrev main_while0b_cst_20 : Ref sig .tc := ⟨.hbm, 100, rfl⟩
abbrev main_while0b_v46 : Ref sig .tc := ⟨.hbm, 101, rfl⟩
abbrev main_while0b_v47 : Ref sig .tc := ⟨.hbm, 102, rfl⟩
abbrev main_while0b_v48 : Ref sig .tc := ⟨.hbm, 103, rfl⟩
abbrev main_while0b_v49 : Ref sig .tc := ⟨.hbm, 104, rfl⟩
abbrev main_while0b_v50 : Ref sig .tc := ⟨.hbm, 105, rfl⟩
abbrev main_while0b_v51 : Ref sig .tc := ⟨.hbm, 106, rfl⟩
abbrev main_while0b_v52 : Ref sig .tc := ⟨.hbm, 107, rfl⟩
abbrev main_while0b_v53 : Ref sig .tc := ⟨.hbm, 108, rfl⟩
abbrev main_while0b_cst_21 : Ref sig .tc := ⟨.hbm, 109, rfl⟩
abbrev main_while0b_v54 : Ref sig .tc := ⟨.hbm, 110, rfl⟩
abbrev main_while0b_v55 : Ref sig .tc := ⟨.hbm, 111, rfl⟩
abbrev main_while0b_cst_22 : Ref sig .tc := ⟨.hbm, 112, rfl⟩
abbrev main_while0b_v56 : Ref sig .tc := ⟨.hbm, 113, rfl⟩
abbrev main_while0b_v57 : Ref sig .tc := ⟨.hbm, 114, rfl⟩
abbrev main_while0b_v58 : Ref sig .tc := ⟨.hbm, 115, rfl⟩
abbrev main_while0b_v59 : Ref sig .tc := ⟨.hbm, 116, rfl⟩
abbrev main_while0b_v60 : Ref sig .tc := ⟨.hbm, 117, rfl⟩
abbrev main_while0b_v61 : Ref sig .tc := ⟨.hbm, 118, rfl⟩
abbrev main_while0b_v62 : Ref sig .tc := ⟨.hbm, 119, rfl⟩
abbrev main_while0b_v63 : Ref sig .tc := ⟨.hbm, 120, rfl⟩
abbrev main_while0b_v64 : Ref sig .tc := ⟨.hbm, 121, rfl⟩
abbrev main_while0b_v65 : Ref sig .tc := ⟨.hbm, 122, rfl⟩
abbrev main_while0b_cst_23 : Ref sig .tc := ⟨.hbm, 123, rfl⟩
abbrev main_while0b_v66 : Ref sig .tc := ⟨.hbm, 124, rfl⟩
abbrev main_while0b_v67 : Ref sig .tc := ⟨.hbm, 125, rfl⟩
abbrev main_while0b_v68 : Ref sig .tc := ⟨.hbm, 126, rfl⟩
abbrev main_while0b_v69 : Ref sig .tc := ⟨.hbm, 127, rfl⟩
abbrev main_while0b_v70 : Ref sig .tc := ⟨.hbm, 128, rfl⟩
abbrev main_while0b_v71 : Ref sig .tc := ⟨.hbm, 129, rfl⟩
abbrev main_while0b_v72 : Ref sig .tc := ⟨.hbm, 130, rfl⟩
abbrev main_while0b_v73 : Ref sig .tc := ⟨.hbm, 131, rfl⟩
abbrev main_while0b_call7_v0 : Ref sig .tc := ⟨.hbm, 132, rfl⟩
abbrev main_while0b_call7_v1 : Ref sig .tc := ⟨.hbm, 133, rfl⟩
abbrev main_while0b_call7_v2 : Ref sig .tc := ⟨.hbm, 134, rfl⟩
abbrev main_while0b_call7_v3 : Ref sig .tc := ⟨.hbm, 135, rfl⟩
abbrev main_while0b_call7_v4 : Ref sig .tc := ⟨.hbm, 136, rfl⟩
abbrev main_while0b_v74 : Ref sig .tc := ⟨.hbm, 137, rfl⟩
abbrev main_while0b_v75 : Ref sig .tc := ⟨.hbm, 138, rfl⟩
abbrev main_while0b_v76 : Ref sig .tc := ⟨.hbm, 139, rfl⟩
abbrev main_while0b_v77 : Ref sig .tc := ⟨.hbm, 140, rfl⟩
abbrev main_while0b_v78 : Ref sig .tc := ⟨.hbm, 141, rfl⟩
abbrev main_while0b_v79 : Ref sig .tc := ⟨.hbm, 142, rfl⟩
abbrev main_while0b_cst_24 : Ref sig .tc := ⟨.hbm, 143, rfl⟩
abbrev main_while0b_v80 : Ref sig .tc := ⟨.hbm, 144, rfl⟩
abbrev main_while0b_v81 : Ref sig .tc := ⟨.hbm, 145, rfl⟩
abbrev main_while0b_v82 : Ref sig .tc := ⟨.hbm, 146, rfl⟩
abbrev main_while0b_v83 : Ref sig .tc := ⟨.hbm, 147, rfl⟩
abbrev main_while0b_v84 : Ref sig .tc := ⟨.hbm, 148, rfl⟩
abbrev main_while0b_v85 : Ref sig .tc := ⟨.hbm, 149, rfl⟩
abbrev main_while0b_v86 : Ref sig .tc := ⟨.hbm, 150, rfl⟩
abbrev main_while0b_v87 : Ref sig .tc := ⟨.hbm, 151, rfl⟩
abbrev main_while0b_v88 : Ref sig .tc := ⟨.hbm, 152, rfl⟩
abbrev main_while0b_cst_25 : Ref sig .tc := ⟨.hbm, 153, rfl⟩
abbrev main_while0b_v89 : Ref sig .tc := ⟨.hbm, 154, rfl⟩
abbrev main_while0b_v90 : Ref sig .tc := ⟨.hbm, 155, rfl⟩
abbrev main_while0b_v91 : Ref sig .tc := ⟨.hbm, 156, rfl⟩
abbrev main_while0b_v92 : Ref sig .tc := ⟨.hbm, 157, rfl⟩
abbrev main_while0b_v93 : Ref sig .tc := ⟨.hbm, 158, rfl⟩
abbrev main_while0b_v94 : Ref sig .tc := ⟨.hbm, 159, rfl⟩
abbrev main_while0b_v95 : Ref sig .tc := ⟨.hbm, 160, rfl⟩
abbrev main_while0b_v96 : Ref sig .tc := ⟨.hbm, 161, rfl⟩
abbrev main_while0b_call8_v0 : Ref sig .tc := ⟨.hbm, 162, rfl⟩
abbrev main_while0b_call8_c : Ref sig .tc := ⟨.hbm, 163, rfl⟩
abbrev main_while0b_call8_c_0 : Ref sig .tc := ⟨.hbm, 164, rfl⟩
abbrev main_while0b_v97 : Ref sig .tc := ⟨.hbm, 165, rfl⟩
abbrev main_while0b_call9_v0 : Ref sig .tc := ⟨.hbm, 166, rfl⟩
abbrev main_while0b_call9_c : Ref sig .tc := ⟨.hbm, 167, rfl⟩
abbrev main_while0b_call9_c_0 : Ref sig .tc := ⟨.hbm, 168, rfl⟩
abbrev main_while0b_v98 : Ref sig .tc := ⟨.hbm, 169, rfl⟩
abbrev main_while0b_c_26 : Ref sig .tc := ⟨.hbm, 170, rfl⟩
abbrev main_while0b_v99 : Ref sig .tc := ⟨.hbm, 171, rfl⟩
abbrev main_v11 : Ref sig .tc := ⟨.hbm, 172, rfl⟩
abbrev main_v12 : Ref sig .tc := ⟨.hbm, 173, rfl⟩

abbrev nD : Nat := 1
abbrev τ : Topo := Topo.v7x

variable {F : FTy → Type} [FloatOps F]

abbrev main_while0_count : Scf.Loop 32 := ⟨0#32, 512#32, 1#32⟩
-- ==== Proof.Frames.lean ====
/- The memory claims: each program leaves its arguments alone and every counter at zero. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Lib.Quiescent

@[expose] public section

noncomputable section

namespace Cert.Proof

open Idealize.ShloMosaic Idealize.SL.Sem

/-- The shape facts the precondition's printed function rests on. -/
theorem preFacts : Cert.Pre_inputs_ok.Facts where
  bcast_S_S32x512 := by decide
  reducesTo_S32x512_S_d0_1 := by decide
  h_S_ := by decide
  bcast_S_S32x512x128 := by decide
  reducesTo_S32x512x128_S_d0_1_2 := by decide
  bcast_S_S2x128 := by decide
  reducesTo_S2x128_S_d0_1 := by decide

/-- The kernel's frame. -/
theorem frameKernel : quiescent_Kernel (hKernel := Cert.Kernel.Gen.facts) :=
  fun m ρ _ => Cert.Kernel.Gen.frame m ρ

/-- The idealized kernel's frame. -/
theorem frameKernelIdeal : quiescent_KernelIdeal (hKernelIdeal := Cert.KernelIdeal.Gen.facts) :=
  fun m ρ _ => Cert.KernelIdeal.Gen.frame m ρ

/-- The idealized kernel's frame on the inputs the precondition admits. -/
theorem frameKernelIdealPre :
    quiescent_KernelIdeal_pre_inputs_ok (hKernelIdeal := Cert.KernelIdeal.Gen.facts) (hPre_inputs_ok := preFacts) :=
  fun m ρ _ => Cert.KernelIdeal.Gen.frame m ρ

/-- The reference's frame: its loop writes only its own buffers, and the program has no semaphore. -/
theorem frameReferenceIdeal : quiescent_ReferenceIdeal (hReferenceIdeal := Cert.ReferenceIdeal.Gen.facts) :=
  fun m ρ _ => (θ_run _ _ _).mono (fun r h => ⟨fun c => (h c).2.2.2, sem_eq_zero_of_no_sems (by decide) r.2⟩)
    (Cert.ReferenceIdeal.Value.run m ρ)

/-- The reference's frame on the inputs the precondition admits. -/
theorem frameReferenceIdealPre :
    quiescent_ReferenceIdeal_pre_inputs_ok (hReferenceIdeal := Cert.ReferenceIdeal.Gen.facts) (hPre_inputs_ok := preFacts) :=
  fun m ρ _ => frameReferenceIdeal m ρ trivial

end Cert.Proof

end
-- ==== Proof.Step.lean ====
/- One grid point's sixteen steps, written once: the arrays a point computes before its steps, what one step makes of the
   memory, and the lists of stores the steps leave. -/
module

public import proofs.«01_k».proof.Proof.Gen.KernelIdeal.Skeleton
public import proofs.«01_k».proof.Proof.Gen.KernelIdeal.Frame.Runs

@[expose] public section

set_option maxRecDepth 16384

noncomputable section

namespace Cert.KernelIdeal.Step

open Idealize.ShloMosaic Idealize.ShloMosaic.TcCoe Idealize.SL.Sem
open Cert.KernelIdeal Cert.KernelIdeal.Gen

variable {F : FTy → Type} [FloatOps F]

/-- One where a column of the packed memory lies in a batch row's group of sixty-four, zero elsewhere. -/
def e2a : FVec F S16x1024 .bf16 := k0_pay14 (iota .tc S16x1024 32 [0] iota_S16x1024_d0_w32) k0_pay11 k0_pay12 k0_pay13

/-- The same, twice over, one copy for each relation. -/
def md2 : FVec F S32x1024 .bf16 := k0_pay15 (iota .tc S16x1024 32 [0] iota_S16x1024_d0_w32) k0_pay11 k0_pay12 k0_pay13

/-- What a grid point computes before its steps: `xw` the projected inputs, `w0`, `w1` the attention weights of the two
    relations, `acat` the outgoing edge weights of relation zero, of relation one and of both, `bv`, `ub`, `fu` the
    bias and the recurrent weights, plain and spread over the packed columns. -/
structure Base (F : FTy → Type) [FloatOps F] where
  xw : FVec F S512x128 .f32
  w0 : FVec F S512x128 .bf16
  w1 : FVec F S512x128 .bf16
  acat : FVec F S128x1536 .bf16
  bv : FVec F S1x128 .f32
  ub : FVec F S128x128 .bf16
  fu : FVec F S2048x128 .bf16

/-- The base of the blocks a grid point loads. -/
def base (x ei eo ri ro : Vec F S16x32x128 .f32) (w u : Vec F S128x128 .f32) (b : Vec F S1x128 .f32) (wa : Vec F S2x128 .f32)
    (f : Vec F S2048x128 .bf16) : Base F where
  xw := k0_pay7 x w
  w0 := k0_pay26 (k0_pay8 x wa) (k0_pay18 ri) (k0_pay19 ei)
  w1 := k0_pay27 (k0_pay8 x wa) (k0_pay18 ri) (k0_pay19 ei)
  acat := k0_pay25 (k0_pay20 ro) eo
  bv := k0_pay9 b
  ub := k0_pay10 u
  fu := k0_pay29 f

/-- The aggregated attention weights of the two relations, of the blocks a grid point loads. -/
def agg (x : Vec F S16x32x128 .f32) (wa : Vec F S2x128 .f32) (ri ei : Vec F S16x32x128 .f32) : FVec F S16x32x2 .f32 :=
  k0_pay24 (k0_pay8 x wa) (k0_pay18 ri) (k0_pay19 ei)

/-- Where the rows of step `t`, half `h`, begin among a point's 512 (taken around, so that every `t` and `h` has one). -/
def off (h t : ℕ) : ℕ := 16 * ((2 * t + h) % 32)

theorem off_le (h t : ℕ) : off h t + 16 ≤ 512 := by unfold off; omega

theorem rowsSlice (h t : ℕ) : S512x128.Slices ![off h t, 0] S16x128 :=
  ⟨rfl, Fin.forall_fin_two.mpr ⟨off_le h t, Nat.le_refl 128⟩⟩

theorem colsSlice (h t : ℕ) (k : Fin 3) : S128x1536.Slices ![0, 512 * k.val + off h t] S128x16 :=
  ⟨rfl, Fin.forall_fin_two.mpr ⟨Nat.le_refl 128, by
    have h1 := off_le h t
    have h2 := k.isLt
    show 512 * k.val + off h t + 16 ≤ 1536
    omega⟩⟩

/-- Step `t`'s attention weights, half `h`: relation zero's rows, then relation one's. -/
def w2 (E : Base F) (h t : ℕ) : FVec F S32x128 .bf16 :=
  concatenate S32x128 0 [⟨S16x128, extractStridedSlice S16x128 ![off h t, 0] E.w0 (rowsSlice h t)⟩,
    ⟨S16x128, extractStridedSlice S16x128 ![off h t, 0] E.w1 (rowsSlice h t)⟩] concatenates_S16x128_S16x128_S32x128_d0

/-- Step `t`'s outgoing weights, half `h`: relation zero's columns, then relation one's. -/
def tcat (E : Base F) (h t : ℕ) : FVec F S128x32 .bf16 :=
  concatenate S128x32 1 [⟨S128x16, extractStridedSlice S128x16 ![0, 512 * (0 : Fin 3).val + off h t] E.acat (colsSlice h t 0)⟩,
    ⟨S128x16, extractStridedSlice S128x16 ![0, 512 * (1 : Fin 3).val + off h t] E.acat (colsSlice h t 1)⟩] concatenates_S128x16_S128x16_S128x32_d1

/-- Step `t`'s outgoing weights of both relations, half `h`. -/
def tce (E : Base F) (h t : ℕ) : FVec F S128x16 .bf16 :=
  extractStridedSlice S128x16 ![0, 512 * (2 : Fin 3).val + off h t] E.acat (colsSlice h t 2)

/-- Step `t`'s projected inputs, half `h`. -/
def xwt (E : Base F) (h t : ℕ) : FVec F S16x128 .f32 :=
  extractStridedSlice S16x128 ![off h t, 0] E.xw (rowsSlice h t)

/-- What step `t + 1` attends to of what step `t` writes. -/
def sval (E : Base F) (h t : ℕ) : FVec F S32x32 .bf16 :=
  truncf .bf16 (matmul dot_S32x128_S128x32_S32x32_1_0_0_1_n_n none (w2 E h (t + 1)) (tcat E h t) (constant S32x32 .f32 0x00000000#32))
    bitsLt_bf16_f32

/-- The attended memory, every batch row against every packed column. -/
def attend (w : FVec F S32x128 .bf16) (mem : FVec F S128x1024 .bf16) : FVec F S32x1024 .f32 :=
  matmul dot_S32x128_S128x1024_S32x1024_1_0_0_1_n_n none w mem (constant S32x1024 .f32 0x00000000#32)

/-- The attended memory kept at each batch row's own columns. -/
def pm (p : FVec F S32x1024 .f32) : FVec F S32x1024 .bf16 := truncf .bf16 (mulf p (k0_pay28 md2)) bitsLt_bf16_f32

/-- The incoming hidden state. -/
def hin (p : FVec F S32x1024 .f32) : FVec F S16x128 .f32 :=
  have q : FVec F S32x64 .f32 := matmul dot_S32x1024_S1024x64_S32x64_1_0_0_1_n_n none (pm p) k0_pay16 (constant S32x64 .f32 0x00000000#32)
  concatenate S16x128 1 [⟨S16x64, extractStridedSlice S16x64 ![0, 0] q slices_S32x64_o0_0_S16x64⟩,
    ⟨S16x64, extractStridedSlice S16x64 ![16, 0] q slices_S32x64_o16_0_S16x64⟩] concatenates_S16x64_S16x64_S16x128_d1

/-- The incoming hidden state against the recurrent weights. -/
def hu (fu : FVec F S2048x128 .bf16) (p : FVec F S32x1024 .f32) : FVec F S16x128 .f32 :=
  matmul dot_S16x2048_S2048x128_S16x128_1_0_0_1_n_n none
    (concatenate S16x2048 1 [⟨S16x1024, extractStridedSlice S16x1024 ![0, 0] (pm p) slices_S32x1024_o0_0_S16x1024⟩,
      ⟨S16x1024, extractStridedSlice S16x1024 ![16, 0] (pm p) slices_S32x1024_o16_0_S16x1024⟩] concatenates_S16x1024_S16x1024_S16x2048_d1)
    fu (constant S16x128 .f32 0x00000000#32)

/-- The gate. -/
def gate (bv : FVec F S1x128 .f32) (x hU : FVec F S16x128 .f32) : FVec F S16x128 .f32 :=
  logistic (addf (addf x hU) (broadcastTo S16x128 bv broadcasts_S1x128_S16x128))

/-- The candidate state. -/
def cand (bv : FVec F S1x128 .f32) (ub : FVec F S128x128 .bf16) (x g h : FVec F S16x128 .f32) : FVec F S16x128 .f32 :=
  tanh (addf (addf x (matmul dot_S16x128_S128x128_S16x128_1_0_0_1_n_n none (truncf .bf16 (mulf g h) bitsLt_bf16_f32) ub
    (constant S16x128 .f32 0x00000000#32))) (broadcastTo S16x128 bv broadcasts_S1x128_S16x128))

/-- The gated mixture of the incoming state and the candidate. -/
def mix (g h c : FVec F S16x128 .f32) : FVec F S16x128 .f32 :=
  addf (mulf g h) (mulf (subf (broadcast S16x128 (Scalar.ofBits .f32 0x3F800000#32)) g) c)

/-- A step's hidden state. -/
def hidden (E : Base F) (x : FVec F S16x128 .f32) (p : FVec F S32x1024 .f32) : FVec F S16x128 .f32 :=
  mix (gate E.bv x (hu E.fu p)) (hin p) (cand E.bv E.ub x (gate E.bv x (hu E.fu p)) (hin p))

/-- The hidden state spread over each batch row's own columns, relation zero's half of it, then relation one's. -/
def spread (h : FVec F S16x128 .f32) : FVec F S32x1024 .bf16 :=
  mulf md2 (truncf .bf16 (matmul dot_S32x64_S64x1024_S32x1024_1_0_0_1_n_n none
    (truncf .bf16 (concatenate S32x64 0 [⟨S16x64, extractStridedSlice S16x64 ![0, 0] h slices_S16x128_o0_0_S16x64⟩,
      ⟨S16x64, extractStridedSlice S16x64 ![0, 64] h slices_S16x128_o0_64_S16x64⟩] concatenates_S16x64_S16x64_S32x64_d0) bitsLt_bf16_f32)
    k0_pay17 (constant S32x1024 .f32 0x00000000#32)) bitsLt_bf16_f32)

/-- The memory less what a step takes out of it. -/
def decayed (e : FVec F S128x16 .bf16) (mem : FVec F S128x1024 .bf16) : FVec F S128x1024 .bf16 :=
  mulf mem (truncf .bf16 (subf (broadcast S128x1024 (Scalar.ofBits .f32 0x3F800000#32))
    (matmul dot_S128x16_S16x1024_S128x1024_1_0_0_1_n_n none e e2a (constant S128x1024 .f32 0x00000000#32))) bitsLt_bf16_f32)

/-- The memory a step leaves. -/
def written (a : FVec F S128x32 .bf16) (dec : FVec F S128x1024 .bf16) (g : FVec F S32x1024 .bf16) : FVec F S128x1024 .bf16 :=
  shapeCast S128x1024 (truncf .bf16 (addf (extf .f32 dec bitsLt_bf16_f32)
    (matmul dot_S128x32_S32x1024_S128x1024_1_0_0_1_n_n none a g (constant S128x1024 .f32 0x00000000#32))) bitsLt_bf16_f32)
    shapeCasts_S128x1024_S128x1024

/-- What the next step attends to, out of the memory before this step's write and this step's write. -/
def attendNext (w : FVec F S32x128 .bf16) (s : FVec F S32x32 .bf16) (dec : FVec F S128x1024 .bf16) (g : FVec F S32x1024 .bf16) :
    FVec F S32x1024 .f32 :=
  addf (attend w dec) (matmul dot_S32x32_S32x1024_S32x1024_1_0_0_1_n_n none s g (constant S32x1024 .f32 0x00000000#32))

/-- The stores a half's memory has taken, last first, what a load of it reads, and the attended memory of the next step. -/
structure St (F : FTy → Type) [FloatOps F] where
  pieces : List (View.Piece (Elt F) S128x1024 .bf16)
  mem : FVec F S128x1024 .bf16
  p : FVec F S32x1024 .f32

/-- The whole of a half's memory. -/
abbrev whole : Rect S128x1024 := Rect.unit ![0, 0] S128x1024.size inb_S128x1024_S128x1024_0_0

/-- One step's hidden state, out of what stands before it. -/
def hid (E : Base F) (h t : ℕ) (s : St F) : FVec F S16x128 .f32 := hidden E (xwt E h t) s.p

/-- The memory one step stores. -/
def stored (E : Base F) (h t : ℕ) (s : St F) : FVec F S128x1024 .bf16 :=
  written (tcat E h t) (decayed (tce E h t) s.mem) (spread (hid E h t s))

/-- One step. -/
def next (v : View sig .tc .vmem S128x1024 .bf16) (E : Base F) (h t : ℕ) (s : St F) : St F where
  pieces := ⟨whole, stored E h t s⟩ :: s.pieces
  mem := v.readCov (⟨whole, stored E h t s⟩ :: s.pieces) whole.toLoadRect
  p := attendNext (w2 E h (t + 1)) (sval E h t) (decayed (tce E h t) s.mem) (spread (hid E h t s))

/-- What stands before step `t`, the memory having been stored as `L` says and read as `M` before the first. -/
def st (v : View sig .tc .vmem S128x1024 .bf16) (E : Base F) (h : ℕ) (L : List (View.Piece (Elt F) S128x1024 .bf16))
    (M : FVec F S128x1024 .bf16) : ℕ → St F :=
  fun t => Nat.rec ⟨L, M, attend (w2 E h 0) M⟩ (fun t s => next v E h t s) t

/-- A step's rows of the result. -/
def outRow (h0 h1 : FVec F S16x128 .f32) : FVec F S1x32x128 .f32 :=
  shapeCast S1x32x128 (concatenate S32x128 0 [⟨S16x128, h0⟩, ⟨S16x128, h1⟩] concatenates_S16x128_S16x128_S32x128_d0)
    shapeCasts_S32x128_S1x32x128

theorem rowFits (t : ℕ) : ∀ a, (![t % 16, 0, 0] : Fin 3 → ℕ) a + S1x32x128.size a ≤ S16x32x128.size a := by
  intro a
  fin_cases a
  · show t % 16 + 1 ≤ 16
    omega
  · exact Nat.le_refl 32
  · exact Nat.le_refl 128

/-- The first `n` steps' stores into the block of results, last first. -/
def outPieces (H0 H1 : ℕ → FVec F S16x128 .f32) : ℕ → List (View.Piece (Elt F) S16x32x128 .f32) :=
  fun n => Nat.rec [] (fun t L => ⟨Rect.unit ![t % 16, 0, 0] S1x32x128.size (rowFits t), outRow (H0 t) (H1 t)⟩ :: L) n

end Cert.KernelIdeal.Step

end
-- ==== Proof.Spec.lean ====
/- The recurrence in real numbers, which both programs are read against. -/
module

public import Idealize.ShloMosaic.Lib.Pipeline.ValueKit
public import Idealize.ShloMosaic.Lib.Pointwise

@[expose] public section

noncomputable section

namespace Cert.Rec

open Idealize.ShloMosaic Finset

/-- The arguments: at step `n` and batch row `b`, the inputs `x`, the incoming and outgoing edge weights `ei`, `eo` and relation
    numbers `ri`, `ro`; the weights `W`, `U`, the bias `B`, which may be infinite, as may `ei`, and the relations' embeddings `A`. -/
structure In where
  x : ℕ → ℕ → ℕ → ℝ
  ei : ℕ → ℕ → ℕ → EReal
  eo : ℕ → ℕ → ℕ → ℝ
  ri : ℕ → ℕ → ℕ → ℕ
  ro : ℕ → ℕ → ℕ → ℕ
  W : ℕ → ℕ → EReal
  U : ℕ → ℕ → EReal
  B : ℕ → EReal
  A : ℕ → ℕ → ℝ

/-- The small number added to the attention's total. -/
def eps : ℝ := (Ideal.ofBits .f32 841731191#32).toReal

theorem eps_pos_coe : 0 < eps ∧ Ideal.ofBits .f32 841731191#32 = ((eps : ℝ) : EReal) := by
  have h : ∃ r : ℝ, 0 < r ∧ Ideal.ofBits .f32 841731191#32 = ((r : ℝ) : EReal) := by
    refine ⟨_, ?_, by simp [Ideal.ofBits, Ideal.ieee]; rfl⟩
    positivity
  obtain ⟨r, hr, e⟩ := h
  unfold eps
  rw [e]
  exact ⟨hr, rfl⟩

theorem logistic_real (z : EReal) : Ideal.logistic z = (((Ideal.logistic z).toReal : ℝ) : EReal) := by
  induction z with
  | bot => simp
  | top => simp
  | coe r => rw [Ideal.logistic_coe]; rfl

theorem tanh_real (z : EReal) : Ideal.tanh z = (((Ideal.tanh z).toReal : ℝ) : EReal) := by
  induction z with
  | bot => simp
  | top => simp
  | coe r => rfl

/-- A share of a total is a real number, the total infinite or not. -/
theorem share_real {x s : EReal} {e : ℝ} (hx : 0 ≤ x) (hs : x ≤ s) (he : 0 < e) :
    Ideal.div x (s + (e : EReal)) = (((Ideal.div x (s + (e : EReal))).toReal : ℝ) : EReal) := by
  induction s using EReal.rec with
  | bot => exact absurd (hx.trans hs) (by simp)
  | top => simp [Ideal.div]
  | coe r =>
    have hr : 0 ≤ r := EReal.coe_nonneg.mp (hx.trans hs)
    lift x to ℝ using ⟨fun h => by rw [h] at hs; exact absurd hs (by simp), fun h => by rw [h] at hx; exact absurd hx (by simp)⟩
    rw [← EReal.coe_add, Ideal.div_coe (by positivity), ← EReal.coe_mul, EReal.toReal_coe]

theorem coe_sum_range (n : ℕ) (f : ℕ → ℝ) : (∑ k ∈ range n, ((f k : ℝ) : EReal)) = ((∑ k ∈ range n, f k : ℝ) : EReal) := by
  induction n with
  | zero => simp
  | succ n ih => rw [sum_range_succ, sum_range_succ, ih, EReal.coe_add]

theorem coe_sum_fin {n : ℕ} (f : ℕ → ℝ) : (∑ k : Fin n, ((f k.val : ℝ) : EReal)) = ((∑ k ∈ range n, f k : ℝ) : EReal) := by
  rw [← coe_sum_range, Finset.sum_range]

/-- A sum over 1024 columns that only row `b`'s sixty-four take part in. -/
theorem sum_block {α : Type} [AddCommMonoid α] (b : ℕ) (hb : b < 16) (f : ℕ → α) :
    (∑ j ∈ range 1024, if j / 64 = b then f j else 0) = ∑ d ∈ range 64, f (b * 64 + d) := by
  rw [← sum_filter]
  refine (sum_bij (fun d _ => b * 64 + d) ?_ ?_ ?_ ?_).symm
  · intro d hd
    simp only [mem_range, mem_filter] at hd ⊢
    omega
  · intro d _ d' _ h
    exact Nat.add_left_cancel h
  · intro j hj
    simp only [mem_range, mem_filter] at hj
    exact ⟨j - b * 64, by simp only [mem_range]; omega, by omega⟩
  · intro d _
    rfl

/-- A sum only one of whose terms is there. -/
theorem sum_pick {α : Type} [AddCommMonoid α] (n k : ℕ) (hk : k < n) (p : ℕ → Prop) [DecidablePred p] (hp : ∀ j < n, p j ↔ j = k) (f : ℕ → α) :
    (∑ j ∈ range n, if p j then f j else 0) = f k := by
  rw [sum_eq_single k]
  · rw [if_pos ((hp k hk).mpr rfl)]
  · intro j hj hjk
    rw [if_neg (fun h => hjk ((hp j (mem_range.mp hj)).mp h))]
  · intro h
    exact absurd (mem_range.mpr hk) h

/-- A hundred and twenty-eight terms are twice sixty-four. -/
theorem sum_halves {α : Type} [AddCommMonoid α] (f : ℕ → α) :
    (∑ k ∈ range 128, f k) = (∑ d ∈ range 64, f d) + ∑ d ∈ range 64, f (64 + d) := sum_range_add f 64 64

namespace In
variable (I : In)

/-- How a relation's embedding scores the input. -/
def score (r n b : ℕ) : ℝ := ∑ k ∈ range 128, I.x n b k * I.A r k

/-- The attention of a chain, before it is shared out. -/
def aexp (n b c : ℕ) : EReal := ((Real.exp (I.score (I.ri n b c) n b) : ℝ) : EReal) * I.ei n b c

/-- The attention's total. -/
def tot (n b : ℕ) : EReal := (∑ c ∈ range 128, I.aexp n b c) + ((eps : ℝ) : EReal)

/-- The attention of a chain. -/
def probs (n b c : ℕ) : ℝ := (Ideal.div (I.aexp n b c) (I.tot n b)).toReal

/-- The attention of a chain to relation `r`. -/
def wt (r n b c : ℕ) : ℝ := if I.ri n b c = r then I.probs n b c else 0

/-- The attention to relation `r`. -/
def att (r n b : ℕ) : ℝ := ∑ c ∈ range 128, I.wt r n b c

/-- The outgoing weight of a chain to relation `r`. -/
def ow (r n b c : ℕ) : ℝ := if I.ro n b c = r then I.eo n b c else 0

/-- The projected input. -/
def proj (n b o : ℕ) : EReal := ∑ k ∈ range 128, ((I.x n b k : ℝ) : EReal) * I.W k o

/-- The gate, of the incoming state `h` of batch row `b`. -/
def gate (n b : ℕ) (h : ℕ → ℝ) (o : ℕ) : ℝ :=
  (Ideal.logistic (I.proj n b o + (∑ k ∈ range 128, ((h k : ℝ) : EReal) * I.U k o) + I.B o)).toReal

/-- The candidate state. -/
def cand (n b : ℕ) (h : ℕ → ℝ) (o : ℕ) : ℝ :=
  (Ideal.tanh (I.proj n b o + (∑ k ∈ range 128, ((I.gate n b h k * h k : ℝ) : EReal) * I.U k o) + I.B o)).toReal

/-- The hidden state. -/
def hnew (n b : ℕ) (h : ℕ → ℝ) (o : ℕ) : ℝ := I.gate n b h o * h o + (1 - I.gate n b h o) * I.cand n b h o

/-- The incoming state, out of the memory `M`. -/
def hin (M : ℕ → ℕ → ℕ → ℝ) (n b o : ℕ) : ℝ := ∑ c ∈ range 128, I.wt (o / 64) n b c * M b c (o % 64)

/-- The memory step `n` leaves. -/
def next (M : ℕ → ℕ → ℕ → ℝ) (n b c d : ℕ) : ℝ :=
  I.eo n b c * I.hnew n b (I.hin M n b) (64 * I.ro n b c + d) + (1 - I.eo n b c) * M b c d

/-- The memory before step `n`. -/
def mem : ℕ → ℕ → ℕ → ℕ → ℝ
  | 0 => fun _ _ _ => 0
  | n + 1 => I.next (mem n) n

/-- The hidden state of step `n`. -/
def out (n b o : ℕ) : ℝ := I.hnew n b (I.hin (I.mem n) n b) o

end In

end Cert.Rec

end
-- ==== Proof.Masks.lean ====
/- The masks the kernel counts out with iotas: which batch row a packed column belongs to, and which of its sixty-four it is. -/
module

public import proofs.«01_k».proof.Proof.Step
public import proofs.«01_k».proof.Proof.Spec

@[expose] public section

set_option maxRecDepth 16384

noncomputable section

namespace Cert.KernelIdeal.Step

open Idealize.ShloMosaic Idealize.ShloMosaic.TcCoe Idealize.SL.Sem Idealize.ShloMosaic.Tactic
open Cert.KernelIdeal Cert.KernelIdeal.Gen

/-- The flag of two small words being equal, widened and read as a number. -/
theorem word_eq (a b : ℕ) (ha : a < 2 ^ 32) (hb : b < 2 ^ 32) :
    (FloatOps.sitofp (F := Ideal) FTy.f32 (BitVec.setWidth 32 (IntOp.cmpi CmpIPredicate.eq (BitVec.ofNat 32 a) (BitVec.ofNat 32 b))) : EReal)
      = ((if a = b then 1 else 0 : ℝ) : EReal) := by
  by_cases h : a = b
  · subst h
    simp [IntOp.cmpi, FloatOps.sitofp]
  · rw [if_neg h]
    have h' : ¬ BitVec.ofNat 32 a = BitVec.ofNat 32 b := fun e => h (by
      have := congrArg BitVec.toNat e
      simp only [BitVec.toNat_ofNat, Nat.mod_eq_of_lt ha, Nat.mod_eq_of_lt hb] at this
      exact this)
    have h2 : IntOp.cmpi CmpIPredicate.eq (BitVec.ofNat 32 a) (BitVec.ofNat 32 b) = 0#1 := by
      show BitVec.ofBool (BitVec.ofNat 32 a == BitVec.ofNat 32 b) = 0#1
      rw [beq_eq_false_iff_ne.mpr h']
      rfl
    rw [h2]
    simp [FloatOps.sitofp]

/-- The counted quotient by sixty-four. -/
theorem divWord : ∀ j : Fin 1024, (Scalar.select
            (IntOp.andi
              (IntOp.cmpi CmpIPredicate.ne
                (IntOp.subi (BitVec.setWidth 32 (IntOp.cmpi CmpIPredicate.sgt (BitVec.ofNat 32 j.val) 0#32))
                  (BitVec.setWidth 32 (IntOp.cmpi CmpIPredicate.slt (BitVec.ofNat 32 j.val) 0#32)))
                (Scalar.subi (Scalar.extui (Scalar.cmpi CmpIPredicate.sgt 64#32 0#32))
                  (Scalar.extui (Scalar.cmpi CmpIPredicate.slt 64#32 0#32))))
              (IntOp.cmpi CmpIPredicate.ne (IntOp.remsi ArithUnit.vector (BitVec.ofNat 32 j.val) 64#32) 0#32))
            (IntOp.subi (IntOp.divsi ArithUnit.vector (BitVec.ofNat 32 j.val) 64#32) 1#32)
            (IntOp.divsi ArithUnit.vector (BitVec.ofNat 32 j.val) 64#32)) = BitVec.ofNat 32 (j.val / 64) := by
  decide +kernel

/-- The counted remainder by sixty-four. -/
theorem modWord : ∀ i : Fin 1024, (Scalar.select
            (IntOp.andi
              (IntOp.xori
                (IntOp.cmpi CmpIPredicate.slt
                  (IntOp.remsi ArithUnit.vector (BitVec.ofNat 32 i.val)
                    (Scalar.select (Scalar.cmpi CmpIPredicate.eq 64#32 0#32) 1#32 64#32))
                  0#32)
                (Scalar.cmpi CmpIPredicate.slt (Scalar.select (Scalar.cmpi CmpIPredicate.eq 64#32 0#32) 1#32 64#32)
                  0#32))
              (IntOp.cmpi CmpIPredicate.ne
                (IntOp.remsi ArithUnit.vector (BitVec.ofNat 32 i.val)
                  (Scalar.select (Scalar.cmpi CmpIPredicate.eq 64#32 0#32) 1#32 64#32))
                0#32))
            (IntOp.addi
              (IntOp.remsi ArithUnit.vector (BitVec.ofNat 32 i.val)
                (Scalar.select (Scalar.cmpi CmpIPredicate.eq 64#32 0#32) 1#32 64#32))
              (Scalar.select (Scalar.cmpi CmpIPredicate.eq 64#32 0#32) 1#32 64#32))
            (IntOp.remsi ArithUnit.vector (BitVec.ofNat 32 i.val)
              (Scalar.select (Scalar.cmpi CmpIPredicate.eq 64#32 0#32) 1#32 64#32))) = BitVec.ofNat 32 (i.val % 64) := by
  decide +kernel

theorem mask14 (i : Fin 16) (j : Fin 1024) :
    k0_pay14 (F := Ideal) (iota .tc S16x1024 32 [0] iota_S16x1024_d0_w32) k0_pay11 k0_pay12 k0_pay13 (ix2 i j)
      = ((if j.val / 64 = i.val then 1 else 0 : ℝ) : EReal) := by
  unfold k0_pay14 k0_pay11 k0_pay12 k0_pay13
  pointwise
  rw [divWord j]
  exact word_eq _ _ (by omega) (by omega)

theorem e2a_apply (i : Fin 16) (j : Fin 1024) : (e2a (F := Ideal)) (ix2 i j) = ((if j.val / 64 = i.val then 1 else 0 : ℝ) : EReal) :=
  mask14 i j

theorem md2_apply (i : Fin 32) (j : Fin 1024) :
    (md2 (F := Ideal)) (ix2 i j) = ((if j.val / 64 = i.val % 16 then 1 else 0 : ℝ) : EReal) := by
  unfold md2 k0_pay15
  pointwise
  have hi := i.isLt
  split
  · rename_i h
    rw [mask14]
    show (((if j.val / 64 = i.val then 1 else 0 : ℝ)) : EReal) = _
    rw [Nat.mod_eq_of_lt h]
  · rename_i h
    rw [mask14]
    show (((if j.val / 64 = i.val - 16 then 1 else 0 : ℝ)) : EReal) = _
    rw [show i.val % 16 = i.val - 16 by omega]

theorem pay28_apply (i : Fin 32) (j : Fin 1024) :
    (k0_pay28 (F := Ideal) md2) (ix2 i j) = ((if j.val / 64 = i.val % 16 then 1 else 0 : ℝ) : EReal) := by
  unfold k0_pay28
  pointwise
  exact md2_apply i j

theorem pay16_apply (i : Fin 1024) (j : Fin 64) :
    k0_pay16 (F := Ideal) (ix2 i j) = ((if i.val % 64 = j.val then 1 else 0 : ℝ) : EReal) := by
  unfold k0_pay16
  pointwise
  rw [modWord i]
  exact word_eq _ _ (by omega) (by omega)

theorem pay17_apply (i : Fin 64) (j : Fin 1024) :
    k0_pay17 (F := Ideal) (ix2 i j) = ((if j.val % 64 = i.val then 1 else 0 : ℝ) : EReal) := by
  unfold k0_pay17
  pointwise
  exact pay16_apply j i

end Cert.KernelIdeal.Step

end
-- ==== Proof.StepVal.lean ====
/- One step of the kernel in real numbers: each of its arrays read at an index. -/
module

public import proofs.«01_k».proof.Proof.Masks

@[expose] public section

set_option maxRecDepth 16384

noncomputable section

namespace Cert.KernelIdeal.Step

open Idealize.ShloMosaic Idealize.ShloMosaic.TcCoe Idealize.SL.Sem Idealize.ShloMosaic.Tactic
open Cert.KernelIdeal Cert.KernelIdeal.Gen Cert.Rec Finset

/-- An array of two axes that holds real numbers, `f`'s. -/
def Is {a b : ℕ} {φ : FTy} (V : FVec Ideal ⟨2, ![a, b]⟩ φ) (f : ℕ → ℕ → ℝ) : Prop :=
  ∀ (i : Fin a) (j : Fin b), V (ix2 i j) = ((f i.val j.val : ℝ) : EReal)

theorem sum_mul_coe {n : ℕ} {L R : Fin n → EReal} (l r : ℕ → ℝ) (hl : ∀ k, L k = ((l k.val : ℝ) : EReal))
    (hr : ∀ k, R k = ((r k.val : ℝ) : EReal)) : (∑ k, L k * R k) = ((∑ k ∈ range n, l k * r k : ℝ) : EReal) := by
  rw [← coe_sum_fin]
  exact sum_congr rfl fun k _ => by rw [hl, hr, EReal.coe_mul]

theorem attend_is {w : FVec Ideal S32x128 .bf16} {mem : FVec Ideal S128x1024 .bf16} {fw fm : ℕ → ℕ → ℝ} (hw : Is w fw) (hm : Is mem fm) :
    Is (attend w mem) (fun i j => ∑ k ∈ range 128, fw i k * fm k j) := by
  intro i j
  unfold attend
  pointwise
  exact sum_mul_coe (fw i) (fun k => fm k j) (hw i) (fun k => hm k j)

theorem attendNext_is {w : FVec Ideal S32x128 .bf16} {s : FVec Ideal S32x32 .bf16} {dec : FVec Ideal S128x1024 .bf16}
    {g : FVec Ideal S32x1024 .bf16} {fw fs fd fg : ℕ → ℕ → ℝ} (hw : Is w fw) (hs : Is s fs) (hd : Is dec fd) (hg : Is g fg) :
    Is (attendNext w s dec g) (fun i j => (∑ k ∈ range 128, fw i k * fd k j) + ∑ k ∈ range 32, fs i k * fg k j) := by
  intro i j
  unfold attendNext
  pointwise
  rw [attend_is hw hd i j, EReal.coe_add]
  exact congrArg _ (sum_mul_coe (fs i) (fun k => fg k j) (hs i) (fun k => hg k j))

theorem pm_is {p : FVec Ideal S32x1024 .f32} {f : ℕ → ℕ → ℝ} (hp : Is p f) :
    Is (pm p) (fun i j => if j / 64 = i % 16 then f i j else 0) := by
  intro i j
  unfold pm
  pointwise
  rw [hp i j, pay28_apply, ← EReal.coe_mul]
  split <;> simp

/-- The incoming state of a half, in the attended memory's entries. -/
def hinOf (f : ℕ → ℕ → ℝ) (i o : ℕ) : ℝ := f (i + 16 * (o / 64)) (i * 64 + o % 64)

theorem hin_is {p : FVec Ideal S32x1024 .f32} {f : ℕ → ℕ → ℝ} (hp : Is p f) : Is (hin p) (hinOf f) := by
  intro i o
  have hi := i.isLt
  have ho := o.isLt
  have key : ∀ (r : Fin 32) (d : Fin 64), r.val % 16 = i.val →
      (∑ x : Fin 1024, pm p (ix2 r x) * k0_pay16 (ix2 x d)) = ((f r.val (i.val * 64 + d.val) : ℝ) : EReal) := by
    intro r d hr
    rw [sum_mul_coe (fun x => if x / 64 = r.val % 16 then f r.val x else 0) (fun x => if x % 64 = d.val then 1 else 0)
      (fun x => pm_is hp r x) (fun x => pay16_apply x d)]
    congr 1
    rw [← sum_pick 1024 (i.val * 64 + d.val) (by omega) (fun x => x / 64 = r.val % 16 ∧ x % 64 = d.val)
      (fun x hx => by have := d.isLt; omega) (fun x => f r.val x)]
    refine sum_congr rfl fun x _ => ?_
    by_cases h1 : x / 64 = r.val % 16 <;> by_cases h2 : x % 64 = d.val <;> simp [h1, h2]
  unfold hin
  pointwise
  split
  · rename_i h
    rw [key ⟨i.val, by omega⟩ ⟨o.val, h⟩ (Nat.mod_eq_of_lt hi)]
    unfold hinOf
    rw [show o.val / 64 = 0 by omega, show o.val % 64 = o.val by omega]
    rfl
  · rename_i h
    rw [key ⟨16 + i.val, by omega⟩ ⟨o.val - 64, by omega⟩ (by show (16 + i.val) % 16 = i.val; omega)]
    unfold hinOf
    rw [show o.val / 64 = 1 by omega, show o.val % 64 = o.val - 64 by omega, show i.val + 16 * 1 = 16 + i.val by omega]

/-- The incoming state against the recurrent weights: of the packed columns only a row's own sixty-four count. -/
theorem hu_is {p : FVec Ideal S32x1024 .f32} {f : ℕ → ℕ → ℝ} (hp : Is p f) {fu : FVec Ideal S2048x128 .bf16} {U : ℕ → ℕ → EReal}
    (hf : ∀ (x : Fin 2048) (o : Fin 128), fu (ix2 x o) = U (64 * (x.val / 1024) + x.val % 64) o.val) (i : Fin 16) (o : Fin 128) :
    hu fu p (ix2 i o) = ∑ k ∈ range 128, ((hinOf f i.val k : ℝ) : EReal) * U k o.val := by
  have hi := i.isLt
  have key : ∀ (r : Fin 32) (q : ℕ) (v : Fin 1024 → Fin 2048), r.val % 16 = i.val → (∀ x, (v x).val = 1024 * q + x.val) →
      (∑ x : Fin 1024, pm p (ix2 r x) * fu (ix2 (v x) o)) = ∑ d ∈ range 64, ((f r.val (i.val * 64 + d) : ℝ) : EReal) * U (64 * q + d) o.val := by
    intro r q v hr hv
    have e : ∀ x : Fin 1024, pm p (ix2 r x) * fu (ix2 (v x) o)
        = (fun x : ℕ => if x / 64 = i.val then ((f r.val x : ℝ) : EReal) * U (64 * q + x % 64) o.val else 0) x.val := by
      intro x
      have hx := x.isLt
      rw [pm_is hp r x, hf, hv]
      dsimp only
      rw [hr, show (1024 * q + x.val) / 1024 = q by omega, show (1024 * q + x.val) % 64 = x.val % 64 by omega]
      split <;> simp
    rw [sum_congr rfl fun x _ => e x, ← Finset.sum_range (fun x : ℕ => if x / 64 = i.val then ((f r.val x : ℝ) : EReal) * U (64 * q + x % 64) o.val else 0),
      sum_block i.val hi]
    refine sum_congr rfl fun d hd => ?_
    have := mem_range.mp hd
    rw [show (i.val * 64 + d) % 64 = d by omega]
  unfold hu
  pointwise
  rw [key ⟨i.val, by omega⟩ 0 (fun x => ⟨x.val, by omega⟩) (Nat.mod_eq_of_lt hi) (fun x => by show x.val = _; omega),
    key ⟨16 + i.val, by omega⟩ 1 (fun x => ⟨1024 + x.val, by omega⟩) (by show (16 + i.val) % 16 = i.val; omega) (fun x => by show 1024 + x.val = _; omega),
    sum_halves]
  refine congrArg₂ (· + ·) (sum_congr rfl fun d hd => ?_) (sum_congr rfl fun d hd => ?_)
  · have := mem_range.mp hd
    unfold hinOf
    rw [show d / 64 = 0 by omega, show d % 64 = d by omega, show 64 * 0 + d = d by omega]
    rfl
  · have := mem_range.mp hd
    unfold hinOf
    rw [show (64 + d) / 64 = 1 by omega, show (64 + d) % 64 = d by omega, show i.val + 16 * 1 = 16 + i.val by omega]

theorem spread_is {h : FVec Ideal S16x128 .f32} {f : ℕ → ℕ → ℝ} (hh : Is h f) :
    Is (spread h) (fun i j => if j / 64 = i % 16 then f (i % 16) (64 * (i / 16) + j % 64) else 0) := by
  intro i j
  have hi := i.isLt
  have hj := j.isLt
  unfold spread
  pointwise
  rw [md2_apply]
  have e : ∀ x : Fin 64, (if h_1 : i.val < 16 then h (ix2 ⟨i.val, by omega⟩ ⟨x.val, by omega⟩) else h (ix2 ⟨i.val - 16, by omega⟩ ⟨64 + x.val, by omega⟩))
      = ((f (i.val % 16) (64 * (i.val / 16) + x.val) : ℝ) : EReal) := by
    intro x
    split
    · rename_i h1
      rw [hh]
      rw [show i.val % 16 = i.val by omega, show i.val / 16 = 0 by omega, show 64 * 0 + x.val = x.val by omega]
    · rename_i h1
      rw [hh]
      rw [show i.val % 16 = i.val - 16 by omega, show i.val / 16 = 1 by omega]
  rw [sum_mul_coe (fun x => f (i.val % 16) (64 * (i.val / 16) + x)) (fun x => if j.val % 64 = x then 1 else 0) e (fun x => pay17_apply x j),
    ← EReal.coe_mul]
  congr 1
  rw [← sum_pick 64 (j.val % 64) (by omega) (fun x => j.val % 64 = x) (fun x _ => eq_comm) (fun x => f (i.val % 16) (64 * (i.val / 16) + x))]
  have h64 : j.val % 64 < 64 := by omega
  simp [h64]

theorem decayed_is {e : FVec Ideal S128x16 .bf16} {mem : FVec Ideal S128x1024 .bf16} {fe fm : ℕ → ℕ → ℝ} (he : Is e fe) (hm : Is mem fm) :
    Is (decayed e mem) (fun c j => fm c j * (1 - fe c (j / 64))) := by
  intro c j
  have hj := j.isLt
  unfold decayed
  pointwise
  rw [hm c j, sum_mul_coe (fe c) (fun x => if j.val / 64 = x then 1 else 0) (he c) (fun x => e2a_apply x j)]
  have e1 : (∑ k ∈ range 16, fe c k * (if j.val / 64 = k then 1 else 0)) = fe c (j.val / 64) := by
    rw [← sum_pick 16 (j.val / 64) (by omega) (fun x => j.val / 64 = x) (fun x _ => eq_comm) (fun x => fe c x)]
    simp
  rw [e1, EReal.coe_mul, EReal.coe_sub]
  rfl

theorem written_is {a : FVec Ideal S128x32 .bf16} {dec : FVec Ideal S128x1024 .bf16} {g : FVec Ideal S32x1024 .bf16} {fa fd fg : ℕ → ℕ → ℝ}
    (ha : Is a fa) (hd : Is dec fd) (hg : Is g fg) :
    Is (written a dec g) (fun c j => fd c j + ∑ k ∈ range 32, fa c k * fg k j) := by
  intro c j
  unfold written
  pointwise
  rw [hd c j, EReal.coe_add]
  exact congrArg _ (sum_mul_coe (fa c) (fun k => fg k j) (ha c) (fun k => hg k j))

end Cert.KernelIdeal.Step

end
-- ==== Proof.ChainA.lean ====
/- The stores a grid point leaves are the sixteen steps' of Step.lean: the first point. -/
module

public import proofs.«01_k».proof.Proof.Step
public import proofs.«01_k».proof.Proof.Gen.KernelIdeal.Frame

@[expose] public section

set_option maxRecDepth 16384

noncomputable section

namespace Cert.KernelIdeal.Step

open Idealize.ShloMosaic Idealize.ShloMosaic.TcCoe Idealize.SL.Sem Idealize.ShloMosaic.Tactic
open Cert.KernelIdeal Cert.KernelIdeal.Gen

variable {F : FTy → Type} [FloatOps F]

/-- The stores into half 0's memory. -/
theorem pieces_A_0 (c : Dev nD) (i : grid0.Coords) (arg1 : Memref sig .tc .vmem S16x32x128 .f32) (harg1 : arg1.IsWhole) (arg2 : Memref sig .tc .vmem S16x32x128 .f32) (harg2 : arg2.IsWhole) (arg3 : Memref sig .tc .vmem S16x32x128 .f32) (harg3 : arg3.IsWhole) (arg4 : Memref sig .tc .vmem S16x32x128 .f32) (harg4 : arg4.IsWhole) (arg5 : Memref sig .tc .vmem S16x32x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2x128 .f32) (harg9 : arg9.IsWhole) (arg10 : Memref sig .tc .vmem S2048x128 .bf16) (harg10 : arg10.IsWhole) (arg11 : Memref sig .tc .vmem S16x32x128 .f32) (harg11 : arg11.IsWhole) (arg12 : Memref sig .tc .vmem S16x32x2 .f32) (harg12 : arg12.IsWhole) (arg13 : Memref sig .tc .vmem S128x2048 .f32) (harg13 : arg13.IsWhole) (arg14 : Memref sig .tc .vmem S128x1024 .bf16) (harg14 : arg14.IsWhole) (arg15 : Memref sig .tc .vmem S128x1024 .bf16) (harg15 : arg15.IsWhole) (hc0 : cond0_0 i) (hc1 : ¬cond0_1 i)
    (x0 : Vec F S16x32x128 .f32) (x1 : Vec F S16x32x128 .f32) (x2 : Vec F S16x32x128 .f32) (x3 : Vec F S16x32x128 .f32) (x4 : Vec F S16x32x128 .f32) (x5 : Vec F S128x128 .f32) (x6 : Vec F S128x128 .f32) (x7 : Vec F S1x128 .f32) (x8 : Vec F S2x128 .f32) (x9 : Vec F S2048x128 .bf16) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9).2.2.2.1 = ((st arg14.view (base (View.readAt (Elt F) arg1.view (Rect.unit ![0, 0, 0] S16x32x128.size inb_S16x32x128_S16x32x128_0_0_0).toLoadRect (harg1.unread x0)) (View.readAt (Elt F) arg2.view (Rect.unit ![0, 0, 0] S16x32x128.size inb_S16x32x128_S16x32x128_0_0_0).toLoadRect (harg2.unread x1)) (View.readAt (Elt F) arg3.view (Rect.unit ![0, 0, 0] S16x32x128.size inb_S16x32x128_S16x32x128_0_0_0).toLoadRect (harg3.unread x2)) (View.readAt (Elt F) arg4.view (Rect.unit ![0, 0, 0] S16x32x128.size inb_S16x32x128_S16x32x128_0_0_0).toLoadRect (harg4.unread x3)) (View.readAt (Elt F) arg5.view (Rect.unit ![0, 0, 0] S16x32x128.size inb_S16x32x128_S16x32x128_0_0_0).toLoadRect (harg5.unread x4)) (View.readAt (Elt F) arg6.view (Rect.unit ![0, 0] S128x128.size inb_S128x128_S128x128_0_0).toLoadRect (harg6.unread x5)) (View.readAt (Elt F) arg7.view (Rect.unit ![0, 0] S128x128.size inb_S128x128_S128x128_0_0).toLoadRect (harg7.unread x6)) (View.readAt (Elt F) arg8.view (Rect.unit ![0, 0] S1x128.size inb_S1x128_S1x128_0_0).toLoadRect (harg8.unread x7)) (View.readAt (Elt F) arg9.view (Rect.unit ![0, 0] S2x128.size inb_S2x128_S2x128_0_0).toLoadRect (harg9.unread x8)) (View.readAt (Elt F) arg10.view (Rect.unit ![0, 0] S2048x128.size inb_S2048x128_S2048x128_0_0).toLoadRect (harg10.unread x9))) 0 [⟨whole, k0_pay4⟩] (arg14.view.readCov ([⟨whole, k0_pay4⟩] : List (View.Piece (Elt F) S128x1024 .bf16)) whole.toLoadRect)) 16).pieces := by sl_kernel_rfl

/-- The stores into half 1's memory. -/
theorem pieces_A_1 (c : Dev nD) (i : grid0.Coords) (arg1 : Memref sig .tc .vmem S16x32x128 .f32) (harg1 : arg1.IsWhole) (arg2 : Memref sig .tc .vmem S16x32x128 .f32) (harg2 : arg2.IsWhole) (arg3 : Memref sig .tc .vmem S16x32x128 .f32) (harg3 : arg3.IsWhole) (arg4 : Memref sig .tc .vmem S16x32x128 .f32) (harg4 : arg4.IsWhole) (arg5 : Memref sig .tc .vmem S16x32x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2x128 .f32) (harg9 : arg9.IsWhole) (arg10 : Memref sig .tc .vmem S2048x128 .bf16) (harg10 : arg10.IsWhole) (arg11 : Memref sig .tc .vmem S16x32x128 .f32) (harg11 : arg11.IsWhole) (arg12 : Memref sig .tc .vmem S16x32x2 .f32) (harg12 : arg12.IsWhole) (arg13 : Memref sig .tc .vmem S128x2048 .f32) (harg13 : arg13.IsWhole) (arg14 : Memref sig .tc .vmem S128x1024 .bf16) (harg14 : arg14.IsWhole) (arg15 : Memref sig .tc .vmem S128x1024 .bf16) (harg15 : arg15.IsWhole) (hc0 : cond0_0 i) (hc1 : ¬cond0_1 i)
    (x0 : Vec F S16x32x128 .f32) (x1 : Vec F S16x32x128 .f32) (x2 : Vec F S16x32x128 .f32) (x3 : Vec F S16x32x128 .f32) (x4 : Vec F S16x32x128 .f32) (x5 : Vec F S128x128 .f32) (x6 : Vec F S128x128 .f32) (x7 : Vec F S1x128 .f32) (x8 : Vec F S2x128 .f32) (x9 : Vec F S2048x128 .bf16) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9).2.2.2.2.1 = ((st arg15.view (base (View.readAt (Elt F) arg1.view (Rect.unit ![0, 0, 0] S16x32x128.size inb_S16x32x128_S16x32x128_0_0_0).toLoadRect (harg1.unread x0)) (View.readAt (Elt F) arg2.view (Rect.unit ![0, 0, 0] S16x32x128.size inb_S16x32x128_S16x32x128_0_0_0).toLoadRect (harg2.unread x1)) (View.readAt (Elt F) arg3.view (Rect.unit ![0, 0, 0] S16x32x128.size inb_S16x32x128_S16x32x128_0_0_0).toLoadRect (harg3.unread x2)) (View.readAt (Elt F) arg4.view (Rect.unit ![0, 0, 0] S16x32x128.size inb_S16x32x128_S16x32x128_0_0_0).toLoadRect (harg4.unread x3)) (View.readAt (Elt F) arg5.view (Rect.unit ![0, 0, 0] S16x32x128.size inb_S16x32x128_S16x32x128_0_0_0).toLoadRect (harg5.unread x4)) (View.readAt (Elt F) arg6.view (Rect.unit ![0, 0] S128x128.size inb_S128x128_S128x128_0_0).toLoadRect (harg6.unread x5)) (View.readAt (Elt F) arg7.view (Rect.unit ![0, 0] S128x128.size inb_S128x128_S128x128_0_0).toLoadRect (harg7.unread x6)) (View.readAt (Elt F) arg8.view (Rect.unit ![0, 0] S1x128.size inb_S1x128_S1x128_0_0).toLoadRect (harg8.unread x7)) (View.readAt (Elt F) arg9.view (Rect.unit ![0, 0] S2x128.size inb_S2x128_S2x128_0_0).toLoadRect (harg9.unread x8)) (View.readAt (Elt F) arg10.view (Rect.unit ![0, 0] S2048x128.size inb_S2048x128_S2048x128_0_0).toLoadRect (harg10.unread x9))) 1 [⟨whole, k0_pay5⟩] (arg15.view.readCov ([⟨whole, k0_pay5⟩] : List (View.Piece (Elt F) S128x1024 .bf16)) whole.toLoadRect)) 16).pieces := by sl_kernel_rfl

/-- The stores into the block of results. -/
theorem outs_A (c : Dev nD) (i : grid0.Coords) (arg1 : Memref sig .tc .vmem S16x32x128 .f32) (harg1 : arg1.IsWhole) (arg2 : Memref sig .tc .vmem S16x32x128 .f32) (harg2 : arg2.IsWhole) (arg3 : Memref sig .tc .vmem S16x32x128 .f32) (harg3 : arg3.IsWhole) (arg4 : Memref sig .tc .vmem S16x32x128 .f32) (harg4 : arg4.IsWhole) (arg5 : Memref sig .tc .vmem S16x32x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2x128 .f32) (harg9 : arg9.IsWhole) (arg10 : Memref sig .tc .vmem S2048x128 .bf16) (harg10 : arg10.IsWhole) (arg11 : Memref sig .tc .vmem S16x32x128 .f32) (harg11 : arg11.IsWhole) (arg12 : Memref sig .tc .vmem S16x32x2 .f32) (harg12 : arg12.IsWhole) (arg13 : Memref sig .tc .vmem S128x2048 .f32) (harg13 : arg13.IsWhole) (arg14 : Memref sig .tc .vmem S128x1024 .bf16) (harg14 : arg14.IsWhole) (arg15 : Memref sig .tc .vmem S128x1024 .bf16) (harg15 : arg15.IsWhole) (hc0 : cond0_0 i) (hc1 : ¬cond0_1 i)
    (x0 : Vec F S16x32x128 .f32) (x1 : Vec F S16x32x128 .f32) (x2 : Vec F S16x32x128 .f32) (x3 : Vec F S16x32x128 .f32) (x4 : Vec F S16x32x128 .f32) (x5 : Vec F S128x128 .f32) (x6 : Vec F S128x128 .f32) (x7 : Vec F S1x128 .f32) (x8 : Vec F S2x128 .f32) (x9 : Vec F S2048x128 .bf16) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9).1 = outPieces (fun t => hid (base (View.readAt (Elt F) arg1.view (Rect.unit ![0, 0, 0] S16x32x128.size inb_S16x32x128_S16x32x128_0_0_0).toLoadRect (harg1.unread x0)) (View.readAt (Elt F) arg2.view (Rect.unit ![0, 0, 0] S16x32x128.size inb_S16x32x128_S16x32x128_0_0_0).toLoadRect (harg2.unread x1)) (View.readAt (Elt F) arg3.view (Rect.unit ![0, 0, 0] S16x32x128.size inb_S16x32x128_S16x32x128_0_0_0).toLoadRect (harg3.unread x2)) (View.readAt (Elt F) arg4.view (Rect.unit ![0, 0, 0] S16x32x128.size inb_S16x32x128_S16x32x128_0_0_0).toLoadRect (harg4.unread x3)) (View.readAt (Elt F) arg5.view (Rect.unit ![0, 0, 0] S16x32x128.size inb_S16x32x128_S16x32x128_0_0_0).toLoadRect (harg5.unread x4)) (View.readAt (Elt F) arg6.view (Rect.unit ![0, 0] S128x128.size inb_S128x128_S128x128_0_0).toLoadRect (harg6.unread x5)) (View.readAt (Elt F) arg7.view (Rect.unit ![0, 0] S128x128.size inb_S128x128_S128x128_0_0).toLoadRect (harg7.unread x6)) (View.readAt (Elt F) arg8.view (Rect.unit ![0, 0] S1x128.size inb_S1x128_S1x128_0_0).toLoadRect (harg8.unread x7)) (View.readAt (Elt F) arg9.view (Rect.unit ![0, 0] S2x128.size inb_S2x128_S2x128_0_0).toLoadRect (harg9.unread x8)) (View.readAt (Elt F) arg10.view (Rect.unit ![0, 0] S2048x128.size inb_S2048x128_S2048x128_0_0).toLoadRect (harg10.unread x9))) 0 t ((st arg14.view (base (View.readAt (Elt F) arg1.view (Rect.unit ![0, 0, 0] S16x32x128.size inb_S16x32x128_S16x32x128_0_0_0).toLoadRect (harg1.unread x0)) (View.readAt (Elt F) arg2.view (Rect.unit ![0, 0, 0] S16x32x128.size inb_S16x32x128_S16x32x128_0_0_0).toLoadRect (harg2.unread x1)) (View.readAt (Elt F) arg3.view (Rect.unit ![0, 0, 0] S16x32x128.size inb_S16x32x128_S16x32x128_0_0_0).toLoadRect (harg3.unread x2)) (View.readAt (Elt F) arg4.view (Rect.unit ![0, 0, 0] S16x32x128.size inb_S16x32x128_S16x32x128_0_0_0).toLoadRect (harg4.unread x3)) (View.readAt (Elt F) arg5.view (Rect.unit ![0, 0, 0] S16x32x128.size inb_S16x32x128_S16x32x128_0_0_0).toLoadRect (harg5.unread x4)) (View.readAt (Elt F) arg6.view (Rect.unit ![0, 0] S128x128.size inb_S128x128_S128x128_0_0).toLoadRect (harg6.unread x5)) (View.readAt (Elt F) arg7.view (Rect.unit ![0, 0] S128x128.size inb_S128x128_S128x128_0_0).toLoadRect (harg7.unread x6)) (View.readAt (Elt F) arg8.view (Rect.unit ![0, 0] S1x128.size inb_S1x128_S1x128_0_0).toLoadRect (harg8.unread x7)) (View.readAt (Elt F) arg9.view (Rect.unit ![0, 0] S2x128.size inb_S2x128_S2x128_0_0).toLoadRect (harg9.unread x8)) (View.readAt (Elt F) arg10.view (Rect.unit ![0, 0] S2048x128.size inb_S2048x128_S2048x128_0_0).toLoadRect (harg10.unread x9))) 0 [⟨whole, k0_pay4⟩] (arg14.view.readCov ([⟨whole, k0_pay4⟩] : List (View.Piece (Elt F) S128x1024 .bf16)) whole.toLoadRect)) t)) (fun t => hid (base (View.readAt (Elt F) arg1.view (Rect.unit ![0, 0, 0] S16x32x128.size inb_S16x32x128_S16x32x128_0_0_0).toLoadRect (harg1.unread x0)) (View.readAt (Elt F) arg2.view (Rect.unit ![0, 0, 0] S16x32x128.size inb_S16x32x128_S16x32x128_0_0_0).toLoadRect (harg2.unread x1)) (View.readAt (Elt F) arg3.view (Rect.unit ![0, 0, 0] S16x32x128.size inb_S16x32x128_S16x32x128_0_0_0).toLoadRect (harg3.unread x2)) (View.readAt (Elt F) arg4.view (Rect.unit ![0, 0, 0] S16x32x128.size inb_S16x32x128_S16x32x128_0_0_0).toLoadRect (harg4.unread x3)) (View.readAt (Elt F) arg5.view (Rect.unit ![0, 0, 0] S16x32x128.size inb_S16x32x128_S16x32x128_0_0_0).toLoadRect (harg5.unread x4)) (View.readAt (Elt F) arg6.view (Rect.unit ![0, 0] S128x128.size inb_S128x128_S128x128_0_0).toLoadRect (harg6.unread x5)) (View.readAt (Elt F) arg7.view (Rect.unit ![0, 0] S128x128.size inb_S128x128_S128x128_0_0).toLoadRect (harg7.unread x6)) (View.readAt (Elt F) arg8.view (Rect.unit ![0, 0] S1x128.size inb_S1x128_S1x128_0_0).toLoadRect (harg8.unread x7)) (View.readAt (Elt F) arg9.view (Rect.unit ![0, 0] S2x128.size inb_S2x128_S2x128_0_0).toLoadRect (harg9.unread x8)) (View.readAt (Elt F) arg10.view (Rect.unit ![0, 0] S2048x128.size inb_S2048x128_S2048x128_0_0).toLoadRect (harg10.unread x9))) 1 t ((st arg15.view (base (View.readAt (Elt F) arg1.view (Rect.unit ![0, 0, 0] S16x32x128.size inb_S16x32x128_S16x32x128_0_0_0).toLoadRect (harg1.unread x0)) (View.readAt (Elt F) arg2.view (Rect.unit ![0, 0, 0] S16x32x128.size inb_S16x32x128_S16x32x128_0_0_0).toLoadRect (harg2.unread x1)) (View.readAt (Elt F) arg3.view (Rect.unit ![0, 0, 0] S16x32x128.size inb_S16x32x128_S16x32x128_0_0_0).toLoadRect (harg3.unread x2)) (View.readAt (Elt F) arg4.view (Rect.unit ![0, 0, 0] S16x32x128.size inb_S16x32x128_S16x32x128_0_0_0).toLoadRect (harg4.unread x3)) (View.readAt (Elt F) arg5.view (Rect.unit ![0, 0, 0] S16x32x128.size inb_S16x32x128_S16x32x128_0_0_0).toLoadRect (harg5.unread x4)) (View.readAt (Elt F) arg6.view (Rect.unit ![0, 0] S128x128.size inb_S128x128_S128x128_0_0).toLoadRect (harg6.unread x5)) (View.readAt (Elt F) arg7.view (Rect.unit ![0, 0] S128x128.size inb_S128x128_S128x128_0_0).toLoadRect (harg7.unread x6)) (View.readAt (Elt F) arg8.view (Rect.unit ![0, 0] S1x128.size inb_S1x128_S1x128_0_0).toLoadRect (harg8.unread x7)) (View.readAt (Elt F) arg9.view (Rect.unit ![0, 0] S2x128.size inb_S2x128_S2x128_0_0).toLoadRect (harg9.unread x8)) (View.readAt (Elt F) arg10.view (Rect.unit ![0, 0] S2048x128.size inb_S2048x128_S2048x128_0_0).toLoadRect (harg10.unread x9))) 1 [⟨whole, k0_pay5⟩] (arg15.view.readCov ([⟨whole, k0_pay5⟩] : List (View.Piece (Elt F) S128x1024 .bf16)) whole.toLoadRect)) t)) 16 := by sl_kernel_rfl

/-- The store of the aggregates. -/
theorem aggs_A (c : Dev nD) (i : grid0.Coords) (arg1 : Memref sig .tc .vmem S16x32x128 .f32) (harg1 : arg1.IsWhole) (arg2 : Memref sig .tc .vmem S16x32x128 .f32) (harg2 : arg2.IsWhole) (arg3 : Memref sig .tc .vmem S16x32x128 .f32) (harg3 : arg3.IsWhole) (arg4 : Memref sig .tc .vmem S16x32x128 .f32) (harg4 : arg4.IsWhole) (arg5 : Memref sig .tc .vmem S16x32x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2x128 .f32) (harg9 : arg9.IsWhole) (arg10 : Memref sig .tc .vmem S2048x128 .bf16) (harg10 : arg10.IsWhole) (arg11 : Memref sig .tc .vmem S16x32x128 .f32) (harg11 : arg11.IsWhole) (arg12 : Memref sig .tc .vmem S16x32x2 .f32) (harg12 : arg12.IsWhole) (arg13 : Memref sig .tc .vmem S128x2048 .f32) (harg13 : arg13.IsWhole) (arg14 : Memref sig .tc .vmem S128x1024 .bf16) (harg14 : arg14.IsWhole) (arg15 : Memref sig .tc .vmem S128x1024 .bf16) (harg15 : arg15.IsWhole) (hc0 : cond0_0 i) (hc1 : ¬cond0_1 i)
    (x0 : Vec F S16x32x128 .f32) (x1 : Vec F S16x32x128 .f32) (x2 : Vec F S16x32x128 .f32) (x3 : Vec F S16x32x128 .f32) (x4 : Vec F S16x32x128 .f32) (x5 : Vec F S128x128 .f32) (x6 : Vec F S128x128 .f32) (x7 : Vec F S1x128 .f32) (x8 : Vec F S2x128 .f32) (x9 : Vec F S2048x128 .bf16) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9).2.1 = [⟨Rect.unit ![0, 0, 0] S16x32x2.size inb_S16x32x2_S16x32x2_0_0_0, (agg (View.readAt (Elt F) arg1.view (Rect.unit ![0, 0, 0] S16x32x128.size inb_S16x32x128_S16x32x128_0_0_0).toLoadRect (harg1.unread x0)) (View.readAt (Elt F) arg9.view (Rect.unit ![0, 0] S2x128.size inb_S2x128_S2x128_0_0).toLoadRect (harg9.unread x8)) (View.readAt (Elt F) arg4.view (Rect.unit ![0, 0, 0] S16x32x128.size inb_S16x32x128_S16x32x128_0_0_0).toLoadRect (harg4.unread x3)) (View.readAt (Elt F) arg2.view (Rect.unit ![0, 0, 0] S16x32x128.size inb_S16x32x128_S16x32x128_0_0_0).toLoadRect (harg2.unread x1)))⟩] := by sl_kernel_rfl

end Cert.KernelIdeal.Step

end
-- ==== Proof.ChainB.lean ====
/- The stores a grid point leaves are the sixteen steps' of Step.lean: a point between the ends. -/
module

public import proofs.«01_k».proof.Proof.Step
public import proofs.«01_k».proof.Proof.Gen.KernelIdeal.Frame

@[expose] public section

set_option maxRecDepth 16384

noncomputable section

namespace Cert.KernelIdeal.Step

open Idealize.ShloMosaic Idealize.ShloMosaic.TcCoe Idealize.SL.Sem Idealize.ShloMosaic.Tactic
open Cert.KernelIdeal Cert.KernelIdeal.Gen

variable {F : FTy → Type} [FloatOps F]

/-- The stores into half 0's memory. -/
theorem pieces_B_0 (c : Dev nD) (i : grid0.Coords) (arg1 : Memref sig .tc .vmem S16x32x128 .f32) (harg1 : arg1.IsWhole) (arg2 : Memref sig .tc .vmem S16x32x128 .f32) (harg2 : arg2.IsWhole) (arg3 : Memref sig .tc .vmem S16x32x128 .f32) (harg3 : arg3.IsWhole) (arg4 : Memref sig .tc .vmem S16x32x128 .f32) (harg4 : arg4.IsWhole) (arg5 : Memref sig .tc .vmem S16x32x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2x128 .f32) (harg9 : arg9.IsWhole) (arg10 : Memref sig .tc .vmem S2048x128 .bf16) (harg10 : arg10.IsWhole) (arg11 : Memref sig .tc .vmem S16x32x128 .f32) (harg11 : arg11.IsWhole) (arg12 : Memref sig .tc .vmem S16x32x2 .f32) (harg12 : arg12.IsWhole) (arg13 : Memref sig .tc .vmem S128x2048 .f32) (harg13 : arg13.IsWhole) (arg14 : Memref sig .tc .vmem S128x1024 .bf16) (harg14 : arg14.IsWhole) (arg15 : Memref sig .tc .vmem S128x1024 .bf16) (harg15 : arg15.IsWhole) (hc0 : ¬cond0_0 i) (hc1 : ¬cond0_1 i)
    (x0 : Vec F S16x32x128 .f32) (x1 : Vec F S16x32x128 .f32) (x2 : Vec F S16x32x128 .f32) (x3 : Vec F S16x32x128 .f32) (x4 : Vec F S16x32x128 .f32) (x5 : Vec F S128x128 .f32) (x6 : Vec F S128x128 .f32) (x7 : Vec F S1x128 .f32) (x8 : Vec F S2x128 .f32) (x9 : Vec F S2048x128 .bf16) (xs0 : Vec F S128x1024 .bf16) (xs1 : Vec F S128x1024 .bf16) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.2.2.1 = ((st arg14.view (base (View.readAt (Elt F) arg1.view (Rect.unit ![0, 0, 0] S16x32x128.size inb_S16x32x128_S16x32x128_0_0_0).toLoadRect (harg1.unread x0)) (View.readAt (Elt F) arg2.view (Rect.unit ![0, 0, 0] S16x32x128.size inb_S16x32x128_S16x32x128_0_0_0).toLoadRect (harg2.unread x1)) (View.readAt (Elt F) arg3.view (Rect.unit ![0, 0, 0] S16x32x128.size inb_S16x32x128_S16x32x128_0_0_0).toLoadRect (harg3.unread x2)) (View.readAt (Elt F) arg4.view (Rect.unit ![0, 0, 0] S16x32x128.size inb_S16x32x128_S16x32x128_0_0_0).toLoadRect (harg4.unread x3)) (View.readAt (Elt F) arg5.view (Rect.unit ![0, 0, 0] S16x32x128.size inb_S16x32x128_S16x32x128_0_0_0).toLoadRect (harg5.unread x4)) (View.readAt (Elt F) arg6.view (Rect.unit ![0, 0] S128x128.size inb_S128x128_S128x128_0_0).toLoadRect (harg6.unread x5)) (View.readAt (Elt F) arg7.view (Rect.unit ![0, 0] S128x128.size inb_S128x128_S128x128_0_0).toLoadRect (harg7.unread x6)) (View.readAt (Elt F) arg8.view (Rect.unit ![0, 0] S1x128.size inb_S1x128_S1x128_0_0).toLoadRect (harg8.unread x7)) (View.readAt (Elt F) arg9.view (Rect.unit ![0, 0] S2x128.size inb_S2x128_S2x128_0_0).toLoadRect (harg9.unread x8)) (View.readAt (Elt F) arg10.view (Rect.unit ![0, 0] S2048x128.size inb_S2048x128_S2048x128_0_0).toLoadRect (harg10.unread x9))) 0 [] (View.readAt (Elt F) arg14.view (Rect.unit ![0, 0] S128x1024.size inb_S128x1024_S128x1024_0_0).toLoadRect (harg14.unread xs0))) 16).pieces := by sl_kernel_rfl

/-- The stores into half 1's memory. -/
theorem pieces_B_1 (c : Dev nD) (i : grid0.Coords) (arg1 : Memref sig .tc .vmem S16x32x128 .f32) (harg1 : arg1.IsWhole) (arg2 : Memref sig .tc .vmem S16x32x128 .f32) (harg2 : arg2.IsWhole) (arg3 : Memref sig .tc .vmem S16x32x128 .f32) (harg3 : arg3.IsWhole) (arg4 : Memref sig .tc .vmem S16x32x128 .f32) (harg4 : arg4.IsWhole) (arg5 : Memref sig .tc .vmem S16x32x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2x128 .f32) (harg9 : arg9.IsWhole) (arg10 : Memref sig .tc .vmem S2048x128 .bf16) (harg10 : arg10.IsWhole) (arg11 : Memref sig .tc .vmem S16x32x128 .f32) (harg11 : arg11.IsWhole) (arg12 : Memref sig .tc .vmem S16x32x2 .f32) (harg12 : arg12.IsWhole) (arg13 : Memref sig .tc .vmem S128x2048 .f32) (harg13 : arg13.IsWhole) (arg14 : Memref sig .tc .vmem S128x1024 .bf16) (harg14 : arg14.IsWhole) (arg15 : Memref sig .tc .vmem S128x1024 .bf16) (harg15 : arg15.IsWhole) (hc0 : ¬cond0_0 i) (hc1 : ¬cond0_1 i)
    (x0 : Vec F S16x32x128 .f32) (x1 : Vec F S16x32x128 .f32) (x2 : Vec F S16x32x128 .f32) (x3 : Vec F S16x32x128 .f32) (x4 : Vec F S16x32x128 .f32) (x5 : Vec F S128x128 .f32) (x6 : Vec F S128x128 .f32) (x7 : Vec F S1x128 .f32) (x8 : Vec F S2x128 .f32) (x9 : Vec F S2048x128 .bf16) (xs0 : Vec F S128x1024 .bf16) (xs1 : Vec F S128x1024 .bf16) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.2.2.2.1 = ((st arg15.view (base (View.readAt (Elt F) arg1.view (Rect.unit ![0, 0, 0] S16x32x128.size inb_S16x32x128_S16x32x128_0_0_0).toLoadRect (harg1.unread x0)) (View.readAt (Elt F) arg2.view (Rect.unit ![0, 0, 0] S16x32x128.size inb_S16x32x128_S16x32x128_0_0_0).toLoadRect (harg2.unread x1)) (View.readAt (Elt F) arg3.view (Rect.unit ![0, 0, 0] S16x32x128.size inb_S16x32x128_S16x32x128_0_0_0).toLoadRect (harg3.unread x2)) (View.readAt (Elt F) arg4.view (Rect.unit ![0, 0, 0] S16x32x128.size inb_S16x32x128_S16x32x128_0_0_0).toLoadRect (harg4.unread x3)) (View.readAt (Elt F) arg5.view (Rect.unit ![0, 0, 0] S16x32x128.size inb_S16x32x128_S16x32x128_0_0_0).toLoadRect (harg5.unread x4)) (View.readAt (Elt F) arg6.view (Rect.unit ![0, 0] S128x128.size inb_S128x128_S128x128_0_0).toLoadRect (harg6.unread x5)) (View.readAt (Elt F) arg7.view (Rect.unit ![0, 0] S128x128.size inb_S128x128_S128x128_0_0).toLoadRect (harg7.unread x6)) (View.readAt (Elt F) arg8.view (Rect.unit ![0, 0] S1x128.size inb_S1x128_S1x128_0_0).toLoadRect (harg8.unread x7)) (View.readAt (Elt F) arg9.view (Rect.unit ![0, 0] S2x128.size inb_S2x128_S2x128_0_0).toLoadRect (harg9.unread x8)) (View.readAt (Elt F) arg10.view (Rect.unit ![0, 0] S2048x128.size inb_S2048x128_S2048x128_0_0).toLoadRect (harg10.unread x9))) 1 [] (View.readAt (Elt F) arg15.view (Rect.unit ![0, 0] S128x1024.size inb_S128x1024_S128x1024_0_0).toLoadRect (harg15.unread xs1))) 16).pieces := by sl_kernel_rfl

/-- The stores into the block of results. -/
theorem outs_B (c : Dev nD) (i : grid0.Coords) (arg1 : Memref sig .tc .vmem S16x32x128 .f32) (harg1 : arg1.IsWhole) (arg2 : Memref sig .tc .vmem S16x32x128 .f32) (harg2 : arg2.IsWhole) (arg3 : Memref sig .tc .vmem S16x32x128 .f32) (harg3 : arg3.IsWhole) (arg4 : Memref sig .tc .vmem S16x32x128 .f32) (harg4 : arg4.IsWhole) (arg5 : Memref sig .tc .vmem S16x32x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2x128 .f32) (harg9 : arg9.IsWhole) (arg10 : Memref sig .tc .vmem S2048x128 .bf16) (harg10 : arg10.IsWhole) (arg11 : Memref sig .tc .vmem S16x32x128 .f32) (harg11 : arg11.IsWhole) (arg12 : Memref sig .tc .vmem S16x32x2 .f32) (harg12 : arg12.IsWhole) (arg13 : Memref sig .tc .vmem S128x2048 .f32) (harg13 : arg13.IsWhole) (arg14 : Memref sig .tc .vmem S128x1024 .bf16) (harg14 : arg14.IsWhole) (arg15 : Memref sig .tc .vmem S128x1024 .bf16) (harg15 : arg15.IsWhole) (hc0 : ¬cond0_0 i) (hc1 : ¬cond0_1 i)
    (x0 : Vec F S16x32x128 .f32) (x1 : Vec F S16x32x128 .f32) (x2 : Vec F S16x32x128 .f32) (x3 : Vec F S16x32x128 .f32) (x4 : Vec F S16x32x128 .f32) (x5 : Vec F S128x128 .f32) (x6 : Vec F S128x128 .f32) (x7 : Vec F S1x128 .f32) (x8 : Vec F S2x128 .f32) (x9 : Vec F S2048x128 .bf16) (xs0 : Vec F S128x1024 .bf16) (xs1 : Vec F S128x1024 .bf16) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).1 = outPieces (fun t => hid (base (View.readAt (Elt F) arg1.view (Rect.unit ![0, 0, 0] S16x32x128.size inb_S16x32x128_S16x32x128_0_0_0).toLoadRect (harg1.unread x0)) (View.readAt (Elt F) arg2.view (Rect.unit ![0, 0, 0] S16x32x128.size inb_S16x32x128_S16x32x128_0_0_0).toLoadRect (harg2.unread x1)) (View.readAt (Elt F) arg3.view (Rect.unit ![0, 0, 0] S16x32x128.size inb_S16x32x128_S16x32x128_0_0_0).toLoadRect (harg3.unread x2)) (View.readAt (Elt F) arg4.view (Rect.unit ![0, 0, 0] S16x32x128.size inb_S16x32x128_S16x32x128_0_0_0).toLoadRect (harg4.unread x3)) (View.readAt (Elt F) arg5.view (Rect.unit ![0, 0, 0] S16x32x128.size inb_S16x32x128_S16x32x128_0_0_0).toLoadRect (harg5.unread x4)) (View.readAt (Elt F) arg6.view (Rect.unit ![0, 0] S128x128.size inb_S128x128_S128x128_0_0).toLoadRect (harg6.unread x5)) (View.readAt (Elt F) arg7.view (Rect.unit ![0, 0] S128x128.size inb_S128x128_S128x128_0_0).toLoadRect (harg7.unread x6)) (View.readAt (Elt F) arg8.view (Rect.unit ![0, 0] S1x128.size inb_S1x128_S1x128_0_0).toLoadRect (harg8.unread x7)) (View.readAt (Elt F) arg9.view (Rect.unit ![0, 0] S2x128.size inb_S2x128_S2x128_0_0).toLoadRect (harg9.unread x8)) (View.readAt (Elt F) arg10.view (Rect.unit ![0, 0] S2048x128.size inb_S2048x128_S2048x128_0_0).toLoadRect (harg10.unread x9))) 0 t ((st arg14.view (base (View.readAt (Elt F) arg1.view (Rect.unit ![0, 0, 0] S16x32x128.size inb_S16x32x128_S16x32x128_0_0_0).toLoadRect (harg1.unread x0)) (View.readAt (Elt F) arg2.view (Rect.unit ![0, 0, 0] S16x32x128.size inb_S16x32x128_S16x32x128_0_0_0).toLoadRect (harg2.unread x1)) (View.readAt (Elt F) arg3.view (Rect.unit ![0, 0, 0] S16x32x128.size inb_S16x32x128_S16x32x128_0_0_0).toLoadRect (harg3.unread x2)) (View.readAt (Elt F) arg4.view (Rect.unit ![0, 0, 0] S16x32x128.size inb_S16x32x128_S16x32x128_0_0_0).toLoadRect (harg4.unread x3)) (View.readAt (Elt F) arg5.view (Rect.unit ![0, 0, 0] S16x32x128.size inb_S16x32x128_S16x32x128_0_0_0).toLoadRect (harg5.unread x4)) (View.readAt (Elt F) arg6.view (Rect.unit ![0, 0] S128x128.size inb_S128x128_S128x128_0_0).toLoadRect (harg6.unread x5)) (View.readAt (Elt F) arg7.view (Rect.unit ![0, 0] S128x128.size inb_S128x128_S128x128_0_0).toLoadRect (harg7.unread x6)) (View.readAt (Elt F) arg8.view (Rect.unit ![0, 0] S1x128.size inb_S1x128_S1x128_0_0).toLoadRect (harg8.unread x7)) (View.readAt (Elt F) arg9.view (Rect.unit ![0, 0] S2x128.size inb_S2x128_S2x128_0_0).toLoadRect (harg9.unread x8)) (View.readAt (Elt F) arg10.view (Rect.unit ![0, 0] S2048x128.size inb_S2048x128_S2048x128_0_0).toLoadRect (harg10.unread x9))) 0 [] (View.readAt (Elt F) arg14.view (Rect.unit ![0, 0] S128x1024.size inb_S128x1024_S128x1024_0_0).toLoadRect (harg14.unread xs0))) t)) (fun t => hid (base (View.readAt (Elt F) arg1.view (Rect.unit ![0, 0, 0] S16x32x128.size inb_S16x32x128_S16x32x128_0_0_0).toLoadRect (harg1.unread x0)) (View.readAt (Elt F) arg2.view (Rect.unit ![0, 0, 0] S16x32x128.size inb_S16x32x128_S16x32x128_0_0_0).toLoadRect (harg2.unread x1)) (View.readAt (Elt F) arg3.view (Rect.unit ![0, 0, 0] S16x32x128.size inb_S16x32x128_S16x32x128_0_0_0).toLoadRect (harg3.unread x2)) (View.readAt (Elt F) arg4.view (Rect.unit ![0, 0, 0] S16x32x128.size inb_S16x32x128_S16x32x128_0_0_0).toLoadRect (harg4.unread x3)) (View.readAt (Elt F) arg5.view (Rect.unit ![0, 0, 0] S16x32x128.size inb_S16x32x128_S16x32x128_0_0_0).toLoadRect (harg5.unread x4)) (View.readAt (Elt F) arg6.view (Rect.unit ![0, 0] S128x128.size inb_S128x128_S128x128_0_0).toLoadRect (harg6.unread x5)) (View.readAt (Elt F) arg7.view (Rect.unit ![0, 0] S128x128.size inb_S128x128_S128x128_0_0).toLoadRect (harg7.unread x6)) (View.readAt (Elt F) arg8.view (Rect.unit ![0, 0] S1x128.size inb_S1x128_S1x128_0_0).toLoadRect (harg8.unread x7)) (View.readAt (Elt F) arg9.view (Rect.unit ![0, 0] S2x128.size inb_S2x128_S2x128_0_0).toLoadRect (harg9.unread x8)) (View.readAt (Elt F) arg10.view (Rect.unit ![0, 0] S2048x128.size inb_S2048x128_S2048x128_0_0).toLoadRect (harg10.unread x9))) 1 t ((st arg15.view (base (View.readAt (Elt F) arg1.view (Rect.unit ![0, 0, 0] S16x32x128.size inb_S16x32x128_S16x32x128_0_0_0).toLoadRect (harg1.unread x0)) (View.readAt (Elt F) arg2.view (Rect.unit ![0, 0, 0] S16x32x128.size inb_S16x32x128_S16x32x128_0_0_0).toLoadRect (harg2.unread x1)) (View.readAt (Elt F) arg3.view (Rect.unit ![0, 0, 0] S16x32x128.size inb_S16x32x128_S16x32x128_0_0_0).toLoadRect (harg3.unread x2)) (View.readAt (Elt F) arg4.view (Rect.unit ![0, 0, 0] S16x32x128.size inb_S16x32x128_S16x32x128_0_0_0).toLoadRect (harg4.unread x3)) (View.readAt (Elt F) arg5.view (Rect.unit ![0, 0, 0] S16x32x128.size inb_S16x32x128_S16x32x128_0_0_0).toLoadRect (harg5.unread x4)) (View.readAt (Elt F) arg6.view (Rect.unit ![0, 0] S128x128.size inb_S128x128_S128x128_0_0).toLoadRect (harg6.unread x5)) (View.readAt (Elt F) arg7.view (Rect.unit ![0, 0] S128x128.size inb_S128x128_S128x128_0_0).toLoadRect (harg7.unread x6)) (View.readAt (Elt F) arg8.view (Rect.unit ![0, 0] S1x128.size inb_S1x128_S1x128_0_0).toLoadRect (harg8.unread x7)) (View.readAt (Elt F) arg9.view (Rect.unit ![0, 0] S2x128.size inb_S2x128_S2x128_0_0).toLoadRect (harg9.unread x8)) (View.readAt (Elt F) arg10.view (Rect.unit ![0, 0] S2048x128.size inb_S2048x128_S2048x128_0_0).toLoadRect (harg10.unread x9))) 1 [] (View.readAt (Elt F) arg15.view (Rect.unit ![0, 0] S128x1024.size inb_S128x1024_S128x1024_0_0).toLoadRect (harg15.unread xs1))) t)) 16 := by sl_kernel_rfl

/-- The store of the aggregates. -/
theorem aggs_B (c : Dev nD) (i : grid0.Coords) (arg1 : Memref sig .tc .vmem S16x32x128 .f32) (harg1 : arg1.IsWhole) (arg2 : Memref sig .tc .vmem S16x32x128 .f32) (harg2 : arg2.IsWhole) (arg3 : Memref sig .tc .vmem S16x32x128 .f32) (harg3 : arg3.IsWhole) (arg4 : Memref sig .tc .vmem S16x32x128 .f32) (harg4 : arg4.IsWhole) (arg5 : Memref sig .tc .vmem S16x32x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2x128 .f32) (harg9 : arg9.IsWhole) (arg10 : Memref sig .tc .vmem S2048x128 .bf16) (harg10 : arg10.IsWhole) (arg11 : Memref sig .tc .vmem S16x32x128 .f32) (harg11 : arg11.IsWhole) (arg12 : Memref sig .tc .vmem S16x32x2 .f32) (harg12 : arg12.IsWhole) (arg13 : Memref sig .tc .vmem S128x2048 .f32) (harg13 : arg13.IsWhole) (arg14 : Memref sig .tc .vmem S128x1024 .bf16) (harg14 : arg14.IsWhole) (arg15 : Memref sig .tc .vmem S128x1024 .bf16) (harg15 : arg15.IsWhole) (hc0 : ¬cond0_0 i) (hc1 : ¬cond0_1 i)
    (x0 : Vec F S16x32x128 .f32) (x1 : Vec F S16x32x128 .f32) (x2 : Vec F S16x32x128 .f32) (x3 : Vec F S16x32x128 .f32) (x4 : Vec F S16x32x128 .f32) (x5 : Vec F S128x128 .f32) (x6 : Vec F S128x128 .f32) (x7 : Vec F S1x128 .f32) (x8 : Vec F S2x128 .f32) (x9 : Vec F S2048x128 .bf16) (xs0 : Vec F S128x1024 .bf16) (xs1 : Vec F S128x1024 .bf16) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.1 = [⟨Rect.unit ![0, 0, 0] S16x32x2.size inb_S16x32x2_S16x32x2_0_0_0, (agg (View.readAt (Elt F) arg1.view (Rect.unit ![0, 0, 0] S16x32x128.size inb_S16x32x128_S16x32x128_0_0_0).toLoadRect (harg1.unread x0)) (View.readAt (Elt F) arg9.view (Rect.unit ![0, 0] S2x128.size inb_S2x128_S2x128_0_0).toLoadRect (harg9.unread x8)) (View.readAt (Elt F) arg4.view (Rect.unit ![0, 0, 0] S16x32x128.size inb_S16x32x128_S16x32x128_0_0_0).toLoadRect (harg4.unread x3)) (View.readAt (Elt F) arg2.view (Rect.unit ![0, 0, 0] S16x32x128.size inb_S16x32x128_S16x32x128_0_0_0).toLoadRect (harg2.unread x1)))⟩] := by sl_kernel_rfl

end Cert.KernelIdeal.Step

end
-- ==== Proof.ChainC.lean ====
/- The stores a grid point leaves are the sixteen steps' of Step.lean: the last point. -/
module

public import proofs.«01_k».proof.Proof.Step
public import proofs.«01_k».proof.Proof.Gen.KernelIdeal.Frame

@[expose] public section

set_option maxRecDepth 16384

noncomputable section

namespace Cert.KernelIdeal.Step

open Idealize.ShloMosaic Idealize.ShloMosaic.TcCoe Idealize.SL.Sem Idealize.ShloMosaic.Tactic
open Cert.KernelIdeal Cert.KernelIdeal.Gen

variable {F : FTy → Type} [FloatOps F]

/-- The stores into half 0's memory. -/
theorem pieces_C_0 (c : Dev nD) (i : grid0.Coords) (arg1 : Memref sig .tc .vmem S16x32x128 .f32) (harg1 : arg1.IsWhole) (arg2 : Memref sig .tc .vmem S16x32x128 .f32) (harg2 : arg2.IsWhole) (arg3 : Memref sig .tc .vmem S16x32x128 .f32) (harg3 : arg3.IsWhole) (arg4 : Memref sig .tc .vmem S16x32x128 .f32) (harg4 : arg4.IsWhole) (arg5 : Memref sig .tc .vmem S16x32x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2x128 .f32) (harg9 : arg9.IsWhole) (arg10 : Memref sig .tc .vmem S2048x128 .bf16) (harg10 : arg10.IsWhole) (arg11 : Memref sig .tc .vmem S16x32x128 .f32) (harg11 : arg11.IsWhole) (arg12 : Memref sig .tc .vmem S16x32x2 .f32) (harg12 : arg12.IsWhole) (arg13 : Memref sig .tc .vmem S128x2048 .f32) (harg13 : arg13.IsWhole) (arg14 : Memref sig .tc .vmem S128x1024 .bf16) (harg14 : arg14.IsWhole) (arg15 : Memref sig .tc .vmem S128x1024 .bf16) (harg15 : arg15.IsWhole) (hc0 : ¬cond0_0 i) (hc1 : cond0_1 i)
    (x0 : Vec F S16x32x128 .f32) (x1 : Vec F S16x32x128 .f32) (x2 : Vec F S16x32x128 .f32) (x3 : Vec F S16x32x128 .f32) (x4 : Vec F S16x32x128 .f32) (x5 : Vec F S128x128 .f32) (x6 : Vec F S128x128 .f32) (x7 : Vec F S1x128 .f32) (x8 : Vec F S2x128 .f32) (x9 : Vec F S2048x128 .bf16) (xs0 : Vec F S128x1024 .bf16) (xs1 : Vec F S128x1024 .bf16) :
    (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.2.2.1 = ((st arg14.view (base (View.readAt (Elt F) arg1.view (Rect.unit ![0, 0, 0] S16x32x128.size inb_S16x32x128_S16x32x128_0_0_0).toLoadRect (harg1.unread x0)) (View.readAt (Elt F) arg2.view (Rect.unit ![0, 0, 0] S16x32x128.size inb_S16x32x128_S16x32x128_0_0_0).toLoadRect (harg2.unread x1)) (View.readAt (Elt F) arg3.view (Rect.unit ![0, 0, 0] S16x32x128.size inb_S16x32x128_S16x32x128_0_0_0).toLoadRect (harg3.unread x2)) (View.readAt (Elt F) arg4.view (Rect.unit ![0, 0, 0] S16x32x128.size inb_S16x32x128_S16x32x128_0_0_0).toLoadRect (harg4.unread x3)) (View.readAt (Elt F) arg5.view (Rect.unit ![0, 0, 0] S16x32x128.size inb_S16x32x128_S16x32x128_0_0_0).toLoadRect (harg5.unread x4)) (View.readAt (Elt F) arg6.view (Rect.unit ![0, 0] S128x128.size inb_S128x128_S128x128_0_0).toLoadRect (harg6.unread x5)) (View.readAt (Elt F) arg7.view (Rect.unit ![0, 0] S128x128.size inb_S128x128_S128x128_0_0).toLoadRect (harg7.unread x6)) (View.readAt (Elt F) arg8.view (Rect.unit ![0, 0] S1x128.size inb_S1x128_S1x128_0_0).toLoadRect (harg8.unread x7)) (View.readAt (Elt F) arg9.view (Rect.unit ![0, 0] S2x128.size inb_S2x128_S2x128_0_0).toLoadRect (harg9.unread x8)) (View.readAt (Elt F) arg10.view (Rect.unit ![0, 0] S2048x128.size inb_S2048x128_S2048x128_0_0).toLoadRect (harg10.unread x9))) 0 [] (View.readAt (Elt F) arg14.view (Rect.unit ![0, 0] S128x1024.size inb_S128x1024_S128x1024_0_0).toLoadRect (harg14.unread xs0))) 16).pieces := by sl_kernel_rfl

/-- The stores into half 1's memory. -/
theorem pieces_C_1 (c : Dev nD) (i : grid0.Coords) (arg1 : Memref sig .tc .vmem S16x32x128 .f32) (harg1 : arg1.IsWhole) (arg2 : Memref sig .tc .vmem S16x32x128 .f32) (harg2 : arg2.IsWhole) (arg3 : Memref sig .tc .vmem S16x32x128 .f32) (harg3 : arg3.IsWhole) (arg4 : Memref sig .tc .vmem S16x32x128 .f32) (harg4 : arg4.IsWhole) (arg5 : Memref sig .tc .vmem S16x32x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2x128 .f32) (harg9 : arg9.IsWhole) (arg10 : Memref sig .tc .vmem S2048x128 .bf16) (harg10 : arg10.IsWhole) (arg11 : Memref sig .tc .vmem S16x32x128 .f32) (harg11 : arg11.IsWhole) (arg12 : Memref sig .tc .vmem S16x32x2 .f32) (harg12 : arg12.IsWhole) (arg13 : Memref sig .tc .vmem S128x2048 .f32) (harg13 : arg13.IsWhole) (arg14 : Memref sig .tc .vmem S128x1024 .bf16) (harg14 : arg14.IsWhole) (arg15 : Memref sig .tc .vmem S128x1024 .bf16) (harg15 : arg15.IsWhole) (hc0 : ¬cond0_0 i) (hc1 : cond0_1 i)
    (x0 : Vec F S16x32x128 .f32) (x1 : Vec F S16x32x128 .f32) (x2 : Vec F S16x32x128 .f32) (x3 : Vec F S16x32x128 .f32) (x4 : Vec F S16x32x128 .f32) (x5 : Vec F S128x128 .f32) (x6 : Vec F S128x128 .f32) (x7 : Vec F S1x128 .f32) (x8 : Vec F S2x128 .f32) (x9 : Vec F S2048x128 .bf16) (xs0 : Vec F S128x1024 .bf16) (xs1 : Vec F S128x1024 .bf16) :
    (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.2.2.2.1 = ((st arg15.view (base (View.readAt (Elt F) arg1.view (Rect.unit ![0, 0, 0] S16x32x128.size inb_S16x32x128_S16x32x128_0_0_0).toLoadRect (harg1.unread x0)) (View.readAt (Elt F) arg2.view (Rect.unit ![0, 0, 0] S16x32x128.size inb_S16x32x128_S16x32x128_0_0_0).toLoadRect (harg2.unread x1)) (View.readAt (Elt F) arg3.view (Rect.unit ![0, 0, 0] S16x32x128.size inb_S16x32x128_S16x32x128_0_0_0).toLoadRect (harg3.unread x2)) (View.readAt (Elt F) arg4.view (Rect.unit ![0, 0, 0] S16x32x128.size inb_S16x32x128_S16x32x128_0_0_0).toLoadRect (harg4.unread x3)) (View.readAt (Elt F) arg5.view (Rect.unit ![0, 0, 0] S16x32x128.size inb_S16x32x128_S16x32x128_0_0_0).toLoadRect (harg5.unread x4)) (View.readAt (Elt F) arg6.view (Rect.unit ![0, 0] S128x128.size inb_S128x128_S128x128_0_0).toLoadRect (harg6.unread x5)) (View.readAt (Elt F) arg7.view (Rect.unit ![0, 0] S128x128.size inb_S128x128_S128x128_0_0).toLoadRect (harg7.unread x6)) (View.readAt (Elt F) arg8.view (Rect.unit ![0, 0] S1x128.size inb_S1x128_S1x128_0_0).toLoadRect (harg8.unread x7)) (View.readAt (Elt F) arg9.view (Rect.unit ![0, 0] S2x128.size inb_S2x128_S2x128_0_0).toLoadRect (harg9.unread x8)) (View.readAt (Elt F) arg10.view (Rect.unit ![0, 0] S2048x128.size inb_S2048x128_S2048x128_0_0).toLoadRect (harg10.unread x9))) 1 [] (View.readAt (Elt F) arg15.view (Rect.unit ![0, 0] S128x1024.size inb_S128x1024_S128x1024_0_0).toLoadRect (harg15.unread xs1))) 16).pieces := by sl_kernel_rfl

/-- The stores into the block of results. -/
theorem outs_C (c : Dev nD) (i : grid0.Coords) (arg1 : Memref sig .tc .vmem S16x32x128 .f32) (harg1 : arg1.IsWhole) (arg2 : Memref sig .tc .vmem S16x32x128 .f32) (harg2 : arg2.IsWhole) (arg3 : Memref sig .tc .vmem S16x32x128 .f32) (harg3 : arg3.IsWhole) (arg4 : Memref sig .tc .vmem S16x32x128 .f32) (harg4 : arg4.IsWhole) (arg5 : Memref sig .tc .vmem S16x32x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2x128 .f32) (harg9 : arg9.IsWhole) (arg10 : Memref sig .tc .vmem S2048x128 .bf16) (harg10 : arg10.IsWhole) (arg11 : Memref sig .tc .vmem S16x32x128 .f32) (harg11 : arg11.IsWhole) (arg12 : Memref sig .tc .vmem S16x32x2 .f32) (harg12 : arg12.IsWhole) (arg13 : Memref sig .tc .vmem S128x2048 .f32) (harg13 : arg13.IsWhole) (arg14 : Memref sig .tc .vmem S128x1024 .bf16) (harg14 : arg14.IsWhole) (arg15 : Memref sig .tc .vmem S128x1024 .bf16) (harg15 : arg15.IsWhole) (hc0 : ¬cond0_0 i) (hc1 : cond0_1 i)
    (x0 : Vec F S16x32x128 .f32) (x1 : Vec F S16x32x128 .f32) (x2 : Vec F S16x32x128 .f32) (x3 : Vec F S16x32x128 .f32) (x4 : Vec F S16x32x128 .f32) (x5 : Vec F S128x128 .f32) (x6 : Vec F S128x128 .f32) (x7 : Vec F S1x128 .f32) (x8 : Vec F S2x128 .f32) (x9 : Vec F S2048x128 .bf16) (xs0 : Vec F S128x1024 .bf16) (xs1 : Vec F S128x1024 .bf16) :
    (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).1 = outPieces (fun t => hid (base (View.readAt (Elt F) arg1.view (Rect.unit ![0, 0, 0] S16x32x128.size inb_S16x32x128_S16x32x128_0_0_0).toLoadRect (harg1.unread x0)) (View.readAt (Elt F) arg2.view (Rect.unit ![0, 0, 0] S16x32x128.size inb_S16x32x128_S16x32x128_0_0_0).toLoadRect (harg2.unread x1)) (View.readAt (Elt F) arg3.view (Rect.unit ![0, 0, 0] S16x32x128.size inb_S16x32x128_S16x32x128_0_0_0).toLoadRect (harg3.unread x2)) (View.readAt (Elt F) arg4.view (Rect.unit ![0, 0, 0] S16x32x128.size inb_S16x32x128_S16x32x128_0_0_0).toLoadRect (harg4.unread x3)) (View.readAt (Elt F) arg5.view (Rect.unit ![0, 0, 0] S16x32x128.size inb_S16x32x128_S16x32x128_0_0_0).toLoadRect (harg5.unread x4)) (View.readAt (Elt F) arg6.view (Rect.unit ![0, 0] S128x128.size inb_S128x128_S128x128_0_0).toLoadRect (harg6.unread x5)) (View.readAt (Elt F) arg7.view (Rect.unit ![0, 0] S128x128.size inb_S128x128_S128x128_0_0).toLoadRect (harg7.unread x6)) (View.readAt (Elt F) arg8.view (Rect.unit ![0, 0] S1x128.size inb_S1x128_S1x128_0_0).toLoadRect (harg8.unread x7)) (View.readAt (Elt F) arg9.view (Rect.unit ![0, 0] S2x128.size inb_S2x128_S2x128_0_0).toLoadRect (harg9.unread x8)) (View.readAt (Elt F) arg10.view (Rect.unit ![0, 0] S2048x128.size inb_S2048x128_S2048x128_0_0).toLoadRect (harg10.unread x9))) 0 t ((st arg14.view (base (View.readAt (Elt F) arg1.view (Rect.unit ![0, 0, 0] S16x32x128.size inb_S16x32x128_S16x32x128_0_0_0).toLoadRect (harg1.unread x0)) (View.readAt (Elt F) arg2.view (Rect.unit ![0, 0, 0] S16x32x128.size inb_S16x32x128_S16x32x128_0_0_0).toLoadRect (harg2.unread x1)) (View.readAt (Elt F) arg3.view (Rect.unit ![0, 0, 0] S16x32x128.size inb_S16x32x128_S16x32x128_0_0_0).toLoadRect (harg3.unread x2)) (View.readAt (Elt F) arg4.view (Rect.unit ![0, 0, 0] S16x32x128.size inb_S16x32x128_S16x32x128_0_0_0).toLoadRect (harg4.unread x3)) (View.readAt (Elt F) arg5.view (Rect.unit ![0, 0, 0] S16x32x128.size inb_S16x32x128_S16x32x128_0_0_0).toLoadRect (harg5.unread x4)) (View.readAt (Elt F) arg6.view (Rect.unit ![0, 0] S128x128.size inb_S128x128_S128x128_0_0).toLoadRect (harg6.unread x5)) (View.readAt (Elt F) arg7.view (Rect.unit ![0, 0] S128x128.size inb_S128x128_S128x128_0_0).toLoadRect (harg7.unread x6)) (View.readAt (Elt F) arg8.view (Rect.unit ![0, 0] S1x128.size inb_S1x128_S1x128_0_0).toLoadRect (harg8.unread x7)) (View.readAt (Elt F) arg9.view (Rect.unit ![0, 0] S2x128.size inb_S2x128_S2x128_0_0).toLoadRect (harg9.unread x8)) (View.readAt (Elt F) arg10.view (Rect.unit ![0, 0] S2048x128.size inb_S2048x128_S2048x128_0_0).toLoadRect (harg10.unread x9))) 0 [] (View.readAt (Elt F) arg14.view (Rect.unit ![0, 0] S128x1024.size inb_S128x1024_S128x1024_0_0).toLoadRect (harg14.unread xs0))) t)) (fun t => hid (base (View.readAt (Elt F) arg1.view (Rect.unit ![0, 0, 0] S16x32x128.size inb_S16x32x128_S16x32x128_0_0_0).toLoadRect (harg1.unread x0)) (View.readAt (Elt F) arg2.view (Rect.unit ![0, 0, 0] S16x32x128.size inb_S16x32x128_S16x32x128_0_0_0).toLoadRect (harg2.unread x1)) (View.readAt (Elt F) arg3.view (Rect.unit ![0, 0, 0] S16x32x128.size inb_S16x32x128_S16x32x128_0_0_0).toLoadRect (harg3.unread x2)) (View.readAt (Elt F) arg4.view (Rect.unit ![0, 0, 0] S16x32x128.size inb_S16x32x128_S16x32x128_0_0_0).toLoadRect (harg4.unread x3)) (View.readAt (Elt F) arg5.view (Rect.unit ![0, 0, 0] S16x32x128.size inb_S16x32x128_S16x32x128_0_0_0).toLoadRect (harg5.unread x4)) (View.readAt (Elt F) arg6.view (Rect.unit ![0, 0] S128x128.size inb_S128x128_S128x128_0_0).toLoadRect (harg6.unread x5)) (View.readAt (Elt F) arg7.view (Rect.unit ![0, 0] S128x128.size inb_S128x128_S128x128_0_0).toLoadRect (harg7.unread x6)) (View.readAt (Elt F) arg8.view (Rect.unit ![0, 0] S1x128.size inb_S1x128_S1x128_0_0).toLoadRect (harg8.unread x7)) (View.readAt (Elt F) arg9.view (Rect.unit ![0, 0] S2x128.size inb_S2x128_S2x128_0_0).toLoadRect (harg9.unread x8)) (View.readAt (Elt F) arg10.view (Rect.unit ![0, 0] S2048x128.size inb_S2048x128_S2048x128_0_0).toLoadRect (harg10.unread x9))) 1 t ((st arg15.view (base (View.readAt (Elt F) arg1.view (Rect.unit ![0, 0, 0] S16x32x128.size inb_S16x32x128_S16x32x128_0_0_0).toLoadRect (harg1.unread x0)) (View.readAt (Elt F) arg2.view (Rect.unit ![0, 0, 0] S16x32x128.size inb_S16x32x128_S16x32x128_0_0_0).toLoadRect (harg2.unread x1)) (View.readAt (Elt F) arg3.view (Rect.unit ![0, 0, 0] S16x32x128.size inb_S16x32x128_S16x32x128_0_0_0).toLoadRect (harg3.unread x2)) (View.readAt (Elt F) arg4.view (Rect.unit ![0, 0, 0] S16x32x128.size inb_S16x32x128_S16x32x128_0_0_0).toLoadRect (harg4.unread x3)) (View.readAt (Elt F) arg5.view (Rect.unit ![0, 0, 0] S16x32x128.size inb_S16x32x128_S16x32x128_0_0_0).toLoadRect (harg5.unread x4)) (View.readAt (Elt F) arg6.view (Rect.unit ![0, 0] S128x128.size inb_S128x128_S128x128_0_0).toLoadRect (harg6.unread x5)) (View.readAt (Elt F) arg7.view (Rect.unit ![0, 0] S128x128.size inb_S128x128_S128x128_0_0).toLoadRect (harg7.unread x6)) (View.readAt (Elt F) arg8.view (Rect.unit ![0, 0] S1x128.size inb_S1x128_S1x128_0_0).toLoadRect (harg8.unread x7)) (View.readAt (Elt F) arg9.view (Rect.unit ![0, 0] S2x128.size inb_S2x128_S2x128_0_0).toLoadRect (harg9.unread x8)) (View.readAt (Elt F) arg10.view (Rect.unit ![0, 0] S2048x128.size inb_S2048x128_S2048x128_0_0).toLoadRect (harg10.unread x9))) 1 [] (View.readAt (Elt F) arg15.view (Rect.unit ![0, 0] S128x1024.size inb_S128x1024_S128x1024_0_0).toLoadRect (harg15.unread xs1))) t)) 16 := by sl_kernel_rfl

/-- The store of the aggregates. -/
theorem aggs_C (c : Dev nD) (i : grid0.Coords) (arg1 : Memref sig .tc .vmem S16x32x128 .f32) (harg1 : arg1.IsWhole) (arg2 : Memref sig .tc .vmem S16x32x128 .f32) (harg2 : arg2.IsWhole) (arg3 : Memref sig .tc .vmem S16x32x128 .f32) (harg3 : arg3.IsWhole) (arg4 : Memref sig .tc .vmem S16x32x128 .f32) (harg4 : arg4.IsWhole) (arg5 : Memref sig .tc .vmem S16x32x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2x128 .f32) (harg9 : arg9.IsWhole) (arg10 : Memref sig .tc .vmem S2048x128 .bf16) (harg10 : arg10.IsWhole) (arg11 : Memref sig .tc .vmem S16x32x128 .f32) (harg11 : arg11.IsWhole) (arg12 : Memref sig .tc .vmem S16x32x2 .f32) (harg12 : arg12.IsWhole) (arg13 : Memref sig .tc .vmem S128x2048 .f32) (harg13 : arg13.IsWhole) (arg14 : Memref sig .tc .vmem S128x1024 .bf16) (harg14 : arg14.IsWhole) (arg15 : Memref sig .tc .vmem S128x1024 .bf16) (harg15 : arg15.IsWhole) (hc0 : ¬cond0_0 i) (hc1 : cond0_1 i)
    (x0 : Vec F S16x32x128 .f32) (x1 : Vec F S16x32x128 .f32) (x2 : Vec F S16x32x128 .f32) (x3 : Vec F S16x32x128 .f32) (x4 : Vec F S16x32x128 .f32) (x5 : Vec F S128x128 .f32) (x6 : Vec F S128x128 .f32) (x7 : Vec F S1x128 .f32) (x8 : Vec F S2x128 .f32) (x9 : Vec F S2048x128 .bf16) (xs0 : Vec F S128x1024 .bf16) (xs1 : Vec F S128x1024 .bf16) :
    (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.1 = [⟨Rect.unit ![0, 0, 0] S16x32x2.size inb_S16x32x2_S16x32x2_0_0_0, (agg (View.readAt (Elt F) arg1.view (Rect.unit ![0, 0, 0] S16x32x128.size inb_S16x32x128_S16x32x128_0_0_0).toLoadRect (harg1.unread x0)) (View.readAt (Elt F) arg9.view (Rect.unit ![0, 0] S2x128.size inb_S2x128_S2x128_0_0).toLoadRect (harg9.unread x8)) (View.readAt (Elt F) arg4.view (Rect.unit ![0, 0, 0] S16x32x128.size inb_S16x32x128_S16x32x128_0_0_0).toLoadRect (harg4.unread x3)) (View.readAt (Elt F) arg2.view (Rect.unit ![0, 0, 0] S16x32x128.size inb_S16x32x128_S16x32x128_0_0_0).toLoadRect (harg2.unread x1)))⟩] := by sl_kernel_rfl

/-- The store of the final memory. -/
theorem memf_C (c : Dev nD) (i : grid0.Coords) (arg1 : Memref sig .tc .vmem S16x32x128 .f32) (harg1 : arg1.IsWhole) (arg2 : Memref sig .tc .vmem S16x32x128 .f32) (harg2 : arg2.IsWhole) (arg3 : Memref sig .tc .vmem S16x32x128 .f32) (harg3 : arg3.IsWhole) (arg4 : Memref sig .tc .vmem S16x32x128 .f32) (harg4 : arg4.IsWhole) (arg5 : Memref sig .tc .vmem S16x32x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2x128 .f32) (harg9 : arg9.IsWhole) (arg10 : Memref sig .tc .vmem S2048x128 .bf16) (harg10 : arg10.IsWhole) (arg11 : Memref sig .tc .vmem S16x32x128 .f32) (harg11 : arg11.IsWhole) (arg12 : Memref sig .tc .vmem S16x32x2 .f32) (harg12 : arg12.IsWhole) (arg13 : Memref sig .tc .vmem S128x2048 .f32) (harg13 : arg13.IsWhole) (arg14 : Memref sig .tc .vmem S128x1024 .bf16) (harg14 : arg14.IsWhole) (arg15 : Memref sig .tc .vmem S128x1024 .bf16) (harg15 : arg15.IsWhole) (hc0 : ¬cond0_0 i) (hc1 : cond0_1 i)
    (x0 : Vec F S16x32x128 .f32) (x1 : Vec F S16x32x128 .f32) (x2 : Vec F S16x32x128 .f32) (x3 : Vec F S16x32x128 .f32) (x4 : Vec F S16x32x128 .f32) (x5 : Vec F S128x128 .f32) (x6 : Vec F S128x128 .f32) (x7 : Vec F S1x128 .f32) (x8 : Vec F S2x128 .f32) (x9 : Vec F S2048x128 .bf16) (xs0 : Vec F S128x1024 .bf16) (xs1 : Vec F S128x1024 .bf16) :
    (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1).2.2.1 = [⟨Rect.unit ![0, 0] S128x2048.size inb_S128x2048_S128x2048_0_0, k0_pay3 ((st arg14.view (base (View.readAt (Elt F) arg1.view (Rect.unit ![0, 0, 0] S16x32x128.size inb_S16x32x128_S16x32x128_0_0_0).toLoadRect (harg1.unread x0)) (View.readAt (Elt F) arg2.view (Rect.unit ![0, 0, 0] S16x32x128.size inb_S16x32x128_S16x32x128_0_0_0).toLoadRect (harg2.unread x1)) (View.readAt (Elt F) arg3.view (Rect.unit ![0, 0, 0] S16x32x128.size inb_S16x32x128_S16x32x128_0_0_0).toLoadRect (harg3.unread x2)) (View.readAt (Elt F) arg4.view (Rect.unit ![0, 0, 0] S16x32x128.size inb_S16x32x128_S16x32x128_0_0_0).toLoadRect (harg4.unread x3)) (View.readAt (Elt F) arg5.view (Rect.unit ![0, 0, 0] S16x32x128.size inb_S16x32x128_S16x32x128_0_0_0).toLoadRect (harg5.unread x4)) (View.readAt (Elt F) arg6.view (Rect.unit ![0, 0] S128x128.size inb_S128x128_S128x128_0_0).toLoadRect (harg6.unread x5)) (View.readAt (Elt F) arg7.view (Rect.unit ![0, 0] S128x128.size inb_S128x128_S128x128_0_0).toLoadRect (harg7.unread x6)) (View.readAt (Elt F) arg8.view (Rect.unit ![0, 0] S1x128.size inb_S1x128_S1x128_0_0).toLoadRect (harg8.unread x7)) (View.readAt (Elt F) arg9.view (Rect.unit ![0, 0] S2x128.size inb_S2x128_S2x128_0_0).toLoadRect (harg9.unread x8)) (View.readAt (Elt F) arg10.view (Rect.unit ![0, 0] S2048x128.size inb_S2048x128_S2048x128_0_0).toLoadRect (harg10.unread x9))) 0 [] (View.readAt (Elt F) arg14.view (Rect.unit ![0, 0] S128x1024.size inb_S128x1024_S128x1024_0_0).toLoadRect (harg14.unread xs0))) 16).mem ((st arg15.view (base (View.readAt (Elt F) arg1.view (Rect.unit ![0, 0, 0] S16x32x128.size inb_S16x32x128_S16x32x128_0_0_0).toLoadRect (harg1.unread x0)) (View.readAt (Elt F) arg2.view (Rect.unit ![0, 0, 0] S16x32x128.size inb_S16x32x128_S16x32x128_0_0_0).toLoadRect (harg2.unread x1)) (View.readAt (Elt F) arg3.view (Rect.unit ![0, 0, 0] S16x32x128.size inb_S16x32x128_S16x32x128_0_0_0).toLoadRect (harg3.unread x2)) (View.readAt (Elt F) arg4.view (Rect.unit ![0, 0, 0] S16x32x128.size inb_S16x32x128_S16x32x128_0_0_0).toLoadRect (harg4.unread x3)) (View.readAt (Elt F) arg5.view (Rect.unit ![0, 0, 0] S16x32x128.size inb_S16x32x128_S16x32x128_0_0_0).toLoadRect (harg5.unread x4)) (View.readAt (Elt F) arg6.view (Rect.unit ![0, 0] S128x128.size inb_S128x128_S128x128_0_0).toLoadRect (harg6.unread x5)) (View.readAt (Elt F) arg7.view (Rect.unit ![0, 0] S128x128.size inb_S128x128_S128x128_0_0).toLoadRect (harg7.unread x6)) (View.readAt (Elt F) arg8.view (Rect.unit ![0, 0] S1x128.size inb_S1x128_S1x128_0_0).toLoadRect (harg8.unread x7)) (View.readAt (Elt F) arg9.view (Rect.unit ![0, 0] S2x128.size inb_S2x128_S2x128_0_0).toLoadRect (harg9.unread x8)) (View.readAt (Elt F) arg10.view (Rect.unit ![0, 0] S2048x128.size inb_S2048x128_S2048x128_0_0).toLoadRect (harg10.unread x9))) 1 [] (View.readAt (Elt F) arg15.view (Rect.unit ![0, 0] S128x1024.size inb_S128x1024_S128x1024_0_0).toLoadRect (harg15.unread xs1))) 16).mem⟩] := by sl_kernel_rfl

end Cert.KernelIdeal.Step

end
-- ==== Proof.Point.lean ====
/- What a grid point leaves in the memory, in the block of results and in the aggregates, in terms of the blocks it loads and the
   memory the point before left: the lists of stores of Chain*.lean read back. -/
module

public import proofs.«01_k».proof.Proof.ChainA
public import proofs.«01_k».proof.Proof.ChainB
public import proofs.«01_k».proof.Proof.ChainC
public import proofs.«01_k».proof.Proof.Gen.KernelIdeal.Value
public import Idealize.ShloMosaic.Lib.Pipeline.ValueKit
public import Idealize.ShloMosaic.Lib.Pointwise

@[expose] public section

set_option maxRecDepth 16384

noncomputable section

namespace Cert.KernelIdeal.Step

open Idealize.ShloMosaic Idealize.ShloMosaic.TcCoe Idealize.SL.Sem Idealize.ShloMosaic.Tactic
open Cert.KernelIdeal Cert.KernelIdeal.Gen

variable {F : FTy → Type} [FloatOps F]

/-- One step on the memory and on what the step attends to. -/
def pstep (E : Base F) (h t : ℕ) (s : FVec F S128x1024 .bf16 × FVec F S32x1024 .f32) : FVec F S128x1024 .bf16 × FVec F S32x1024 .f32 :=
  have dec := decayed (tce E h t) s.1
  have g := spread (hidden E (xwt E h t) s.2)
  (written (tcat E h t) dec g, attendNext (w2 E h (t + 1)) (sval E h t) dec g)

/-- The memory and what step `t` attends to, before step `t`, from the memory `M` before the first. -/
def ps (E : Base F) (h : ℕ) (M : FVec F S128x1024 .bf16) : ℕ → FVec F S128x1024 .bf16 × FVec F S32x1024 .f32
  | 0 => (M, attend (w2 E h 0) M)
  | t + 1 => pstep E h t (ps E h M t)

/-- Step `t`'s hidden state. -/
def phid (E : Base F) (h : ℕ) (M : FVec F S128x1024 .bf16) (t : ℕ) : FVec F S16x128 .f32 :=
  hidden E (xwt E h t) (ps E h M t).2

/-- A load after a store of the whole reads what was stored. -/
theorem readCov_whole (v : View sig .tc .vmem S128x1024 .bf16) (X : FVec F S128x1024 .bf16) (L : List (View.Piece (Elt F) S128x1024 .bf16)) :
    v.readCov (⟨whole, X⟩ :: L) whole.toLoadRect = X :=
  View.readCov_cons_toLoadRect (Val := Elt F) (s := S128x1024) (e := .bf16) v whole X L

theorem st_eq (v : View sig .tc .vmem S128x1024 .bf16) (E : Base F) (h : ℕ) (L : List (View.Piece (Elt F) S128x1024 .bf16))
    (M : FVec F S128x1024 .bf16) : ∀ t, (st v E h L M t).mem = (ps E h M t).1 ∧ (st v E h L M t).p = (ps E h M t).2
  | 0 => ⟨rfl, rfl⟩
  | t + 1 => by
    obtain ⟨h1, h2⟩ := st_eq v E h L M t
    constructor
    · show v.readCov (⟨whole, stored E h t (st v E h L M t)⟩ :: (st v E h L M t).pieces) whole.toLoadRect = _
      rw [readCov_whole]
      unfold stored hid
      rw [h1, h2]
      rfl
    · show attendNext _ _ (decayed (tce E h t) (st v E h L M t).mem) (spread (hid E h t (st v E h L M t))) = _
      unfold hid
      rw [h1, h2]
      rfl

theorem hid_eq (v : View sig .tc .vmem S128x1024 .bf16) (E : Base F) (h : ℕ) (L : List (View.Piece (Elt F) S128x1024 .bf16))
    (M : FVec F S128x1024 .bf16) (t : ℕ) : hid E h t (st v E h L M t) = phid E h M t := by
  unfold hid phid
  rw [(st_eq v E h L M t).2]

/-- The last store of the memory. -/
theorem canon_pieces (v : View sig .tc .vmem S128x1024 .bf16) (E : Base F) (h : ℕ) (L : List (View.Piece (Elt F) S128x1024 .bf16))
    (M : FVec F S128x1024 .bf16) (t : ℕ) : View.canon (st v E h L M (t + 1)).pieces = (ps E h M (t + 1)).1 := by
  show View.canon (⟨whole, stored E h t (st v E h L M t)⟩ :: (st v E h L M t).pieces) = _
  have e : stored E h t (st v E h L M t) = (ps E h M (t + 1)).1 := by
    unfold stored hid
    rw [(st_eq v E h L M t).1, (st_eq v E h L M t).2]
    rfl
  rw [View.canon_cons_unit_lit _ _ _ (by decide), e]

/-- A load of the whole of a buffer reads what it holds. -/
theorem ld_whole {s : Shape} {e : EltTy} {sp : Space} (a : Memref sig .tc sp s e) (ha : a.IsWhole) {off : Fin s.rank → ℕ}
    (inb : ∀ i, off i + s.size i ≤ s.size i) (h0 : ∀ i, off i = 0) (x : Vec F s e) :
    View.readAt (Elt F) a.view (Rect.unit off s.size inb).toLoadRect (ha.unread x) = x := by
  rw [View.readAt_eq_ld, View.ld_unit_lit _ _ h0, Memref.IsWhole.read_unread]

/-- Step `t`'s rows in the block of results. -/
abbrev rowRect (t : ℕ) : Rect S16x32x128 := Rect.unit ![t % 16, 0, 0] S1x32x128.size (rowFits t)

/-- The first `n` steps' stores into the block of results, read at one of their rows. -/
theorem canon_outPieces (H0 H1 : ℕ → FVec F S16x128 .f32) : ∀ (n : ℕ), n ≤ 16 → ∀ (t : ℕ) (y : S16x32x128.Idx), (y 0).val = t → t < n →
    View.canon (outPieces H0 H1 n) y = outRow (H0 t) (H1 t) (ix3 0 (y 1) (y 2))
  | 0, _, t, y, _, h => absurd h (Nat.not_lt_zero t)
  | n + 1, hn, t, y, hy, ht => by
    show View.canon ((⟨rowRect n, outRow (H0 n) (H1 n)⟩ : View.Piece (Elt F) S16x32x128 .f32) :: outPieces H0 H1 n) y = _
    have hm : n % 16 = n := Nat.mod_eq_of_lt (by omega)
    by_cases e : t = n
    · subst e
      have : y = (rowRect t).emb (ix3 0 (y 1) (y 2) : S1x32x128.Idx) := by
        funext a
        apply Fin.ext
        fin_cases a
        · show (y 0).val = t % 16 + 1 * 0
          omega
        · show (y 1).val = 0 + 1 * (y 1).val
          omega
        · show (y 2).val = 0 + 1 * (y 2).val
          omega
      conv_lhs => rw [this]
      exact View.canon_cons_emb (rowRect t) _ _ _
    · rw [View.canon_cons_of_not_mem, canon_outPieces H0 H1 n (by omega) t y hy (by omega)]
      intro hmem
      have h0 := ((Rect.mem_set_unit (inb := rowFits n)).mp hmem) 0
      have h1 : n % 16 ≤ (y 0).val := h0.1
      omega

theorem sout_A_0 (c : Dev nD) (i : grid0.Coords) (arg1 : Memref sig .tc .vmem S16x32x128 .f32) (harg1 : arg1.IsWhole) (arg2 : Memref sig .tc .vmem S16x32x128 .f32) (harg2 : arg2.IsWhole) (arg3 : Memref sig .tc .vmem S16x32x128 .f32) (harg3 : arg3.IsWhole) (arg4 : Memref sig .tc .vmem S16x32x128 .f32) (harg4 : arg4.IsWhole) (arg5 : Memref sig .tc .vmem S16x32x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2x128 .f32) (harg9 : arg9.IsWhole) (arg10 : Memref sig .tc .vmem S2048x128 .bf16) (harg10 : arg10.IsWhole) (arg11 : Memref sig .tc .vmem S16x32x128 .f32) (harg11 : arg11.IsWhole) (arg12 : Memref sig .tc .vmem S16x32x2 .f32) (harg12 : arg12.IsWhole) (arg13 : Memref sig .tc .vmem S128x2048 .f32) (harg13 : arg13.IsWhole) (arg14 : Memref sig .tc .vmem S128x1024 .bf16) (harg14 : arg14.IsWhole) (arg15 : Memref sig .tc .vmem S128x1024 .bf16) (harg15 : arg15.IsWhole) (hc0 : cond0_0 i) (hc1 : ¬cond0_1 i)
    (x0 : Vec F S16x32x128 .f32) (x1 : Vec F S16x32x128 .f32) (x2 : Vec F S16x32x128 .f32) (x3 : Vec F S16x32x128 .f32) (x4 : Vec F S16x32x128 .f32) (x5 : Vec F S128x128 .f32) (x6 : Vec F S128x128 .f32) (x7 : Vec F S1x128 .f32) (x8 : Vec F S2x128 .f32) (x9 : Vec F S2048x128 .bf16) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 = (ps (base x0 x1 x2 x3 x4 x5 x6 x7 x8 x9) 0 k0_pay4 16).1 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9), pieces_A_0, canon_pieces, ld_whole arg1 harg1 _ (by decide), ld_whole arg2 harg2 _ (by decide), ld_whole arg3 harg3 _ (by decide), ld_whole arg4 harg4 _ (by decide), ld_whole arg5 harg5 _ (by decide), ld_whole arg6 harg6 _ (by decide), ld_whole arg7 harg7 _ (by decide), ld_whole arg8 harg8 _ (by decide), ld_whole arg9 harg9 _ (by decide), ld_whole arg10 harg10 _ (by decide), readCov_whole]

theorem sout_A_1 (c : Dev nD) (i : grid0.Coords) (arg1 : Memref sig .tc .vmem S16x32x128 .f32) (harg1 : arg1.IsWhole) (arg2 : Memref sig .tc .vmem S16x32x128 .f32) (harg2 : arg2.IsWhole) (arg3 : Memref sig .tc .vmem S16x32x128 .f32) (harg3 : arg3.IsWhole) (arg4 : Memref sig .tc .vmem S16x32x128 .f32) (harg4 : arg4.IsWhole) (arg5 : Memref sig .tc .vmem S16x32x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2x128 .f32) (harg9 : arg9.IsWhole) (arg10 : Memref sig .tc .vmem S2048x128 .bf16) (harg10 : arg10.IsWhole) (arg11 : Memref sig .tc .vmem S16x32x128 .f32) (harg11 : arg11.IsWhole) (arg12 : Memref sig .tc .vmem S16x32x2 .f32) (harg12 : arg12.IsWhole) (arg13 : Memref sig .tc .vmem S128x2048 .f32) (harg13 : arg13.IsWhole) (arg14 : Memref sig .tc .vmem S128x1024 .bf16) (harg14 : arg14.IsWhole) (arg15 : Memref sig .tc .vmem S128x1024 .bf16) (harg15 : arg15.IsWhole) (hc0 : cond0_0 i) (hc1 : ¬cond0_1 i)
    (x0 : Vec F S16x32x128 .f32) (x1 : Vec F S16x32x128 .f32) (x2 : Vec F S16x32x128 .f32) (x3 : Vec F S16x32x128 .f32) (x4 : Vec F S16x32x128 .f32) (x5 : Vec F S128x128 .f32) (x6 : Vec F S128x128 .f32) (x7 : Vec F S1x128 .f32) (x8 : Vec F S2x128 .f32) (x9 : Vec F S2048x128 .bf16) :
    sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 = (ps (base x0 x1 x2 x3 x4 x5 x6 x7 x8 x9) 1 k0_pay5 16).1 := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9), pieces_A_1, canon_pieces, ld_whole arg1 harg1 _ (by decide), ld_whole arg2 harg2 _ (by decide), ld_whole arg3 harg3 _ (by decide), ld_whole arg4 harg4 _ (by decide), ld_whole arg5 harg5 _ (by decide), ld_whole arg6 harg6 _ (by decide), ld_whole arg7 harg7 _ (by decide), ld_whole arg8 harg8 _ (by decide), ld_whole arg9 harg9 _ (by decide), ld_whole arg10 harg10 _ (by decide), readCov_whole]

theorem out_A (c : Dev nD) (i : grid0.Coords) (arg1 : Memref sig .tc .vmem S16x32x128 .f32) (harg1 : arg1.IsWhole) (arg2 : Memref sig .tc .vmem S16x32x128 .f32) (harg2 : arg2.IsWhole) (arg3 : Memref sig .tc .vmem S16x32x128 .f32) (harg3 : arg3.IsWhole) (arg4 : Memref sig .tc .vmem S16x32x128 .f32) (harg4 : arg4.IsWhole) (arg5 : Memref sig .tc .vmem S16x32x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2x128 .f32) (harg9 : arg9.IsWhole) (arg10 : Memref sig .tc .vmem S2048x128 .bf16) (harg10 : arg10.IsWhole) (arg11 : Memref sig .tc .vmem S16x32x128 .f32) (harg11 : arg11.IsWhole) (arg12 : Memref sig .tc .vmem S16x32x2 .f32) (harg12 : arg12.IsWhole) (arg13 : Memref sig .tc .vmem S128x2048 .f32) (harg13 : arg13.IsWhole) (arg14 : Memref sig .tc .vmem S128x1024 .bf16) (harg14 : arg14.IsWhole) (arg15 : Memref sig .tc .vmem S128x1024 .bf16) (harg15 : arg15.IsWhole) (hc0 : cond0_0 i) (hc1 : ¬cond0_1 i)
    (x0 : Vec F S16x32x128 .f32) (x1 : Vec F S16x32x128 .f32) (x2 : Vec F S16x32x128 .f32) (x3 : Vec F S16x32x128 .f32) (x4 : Vec F S16x32x128 .f32) (x5 : Vec F S128x128 .f32) (x6 : Vec F S128x128 .f32) (x7 : Vec F S1x128 .f32) (x8 : Vec F S2x128 .f32) (x9 : Vec F S2048x128 .bf16) (y : S16x32x128.Idx) :
    out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 y = outRow (phid (base x0 x1 x2 x3 x4 x5 x6 x7 x8 x9) 0 k0_pay4 (y 0).val) (phid (base x0 x1 x2 x3 x4 x5 x6 x7 x8 x9) 1 k0_pay5 (y 0).val) (ix3 0 (y 1) (y 2)) := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9), outs_A, canon_outPieces _ _ 16 le_rfl (y 0).val y rfl (y 0).isLt,
    hid_eq, hid_eq, ld_whole arg1 harg1 _ (by decide), ld_whole arg2 harg2 _ (by decide), ld_whole arg3 harg3 _ (by decide), ld_whole arg4 harg4 _ (by decide), ld_whole arg5 harg5 _ (by decide), ld_whole arg6 harg6 _ (by decide), ld_whole arg7 harg7 _ (by decide), ld_whole arg8 harg8 _ (by decide), ld_whole arg9 harg9 _ (by decide), ld_whole arg10 harg10 _ (by decide), readCov_whole, readCov_whole]

theorem agg_A (c : Dev nD) (i : grid0.Coords) (arg1 : Memref sig .tc .vmem S16x32x128 .f32) (harg1 : arg1.IsWhole) (arg2 : Memref sig .tc .vmem S16x32x128 .f32) (harg2 : arg2.IsWhole) (arg3 : Memref sig .tc .vmem S16x32x128 .f32) (harg3 : arg3.IsWhole) (arg4 : Memref sig .tc .vmem S16x32x128 .f32) (harg4 : arg4.IsWhole) (arg5 : Memref sig .tc .vmem S16x32x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2x128 .f32) (harg9 : arg9.IsWhole) (arg10 : Memref sig .tc .vmem S2048x128 .bf16) (harg10 : arg10.IsWhole) (arg11 : Memref sig .tc .vmem S16x32x128 .f32) (harg11 : arg11.IsWhole) (arg12 : Memref sig .tc .vmem S16x32x2 .f32) (harg12 : arg12.IsWhole) (arg13 : Memref sig .tc .vmem S128x2048 .f32) (harg13 : arg13.IsWhole) (arg14 : Memref sig .tc .vmem S128x1024 .bf16) (harg14 : arg14.IsWhole) (arg15 : Memref sig .tc .vmem S128x1024 .bf16) (harg15 : arg15.IsWhole) (hc0 : cond0_0 i) (hc1 : ¬cond0_1 i)
    (x0 : Vec F S16x32x128 .f32) (x1 : Vec F S16x32x128 .f32) (x2 : Vec F S16x32x128 .f32) (x3 : Vec F S16x32x128 .f32) (x4 : Vec F S16x32x128 .f32) (x5 : Vec F S128x128 .f32) (x6 : Vec F S128x128 .f32) (x7 : Vec F S1x128 .f32) (x8 : Vec F S2x128 .f32) (x9 : Vec F S2048x128 .bf16) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 = agg x0 x8 x3 x1 := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9), aggs_A, View.canon_cons_unit_lit _ _ _ (by decide), ld_whole arg1 harg1 _ (by decide), ld_whole arg9 harg9 _ (by decide), ld_whole arg4 harg4 _ (by decide), ld_whole arg2 harg2 _ (by decide)]

theorem sout_B_0 (c : Dev nD) (i : grid0.Coords) (arg1 : Memref sig .tc .vmem S16x32x128 .f32) (harg1 : arg1.IsWhole) (arg2 : Memref sig .tc .vmem S16x32x128 .f32) (harg2 : arg2.IsWhole) (arg3 : Memref sig .tc .vmem S16x32x128 .f32) (harg3 : arg3.IsWhole) (arg4 : Memref sig .tc .vmem S16x32x128 .f32) (harg4 : arg4.IsWhole) (arg5 : Memref sig .tc .vmem S16x32x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2x128 .f32) (harg9 : arg9.IsWhole) (arg10 : Memref sig .tc .vmem S2048x128 .bf16) (harg10 : arg10.IsWhole) (arg11 : Memref sig .tc .vmem S16x32x128 .f32) (harg11 : arg11.IsWhole) (arg12 : Memref sig .tc .vmem S16x32x2 .f32) (harg12 : arg12.IsWhole) (arg13 : Memref sig .tc .vmem S128x2048 .f32) (harg13 : arg13.IsWhole) (arg14 : Memref sig .tc .vmem S128x1024 .bf16) (harg14 : arg14.IsWhole) (arg15 : Memref sig .tc .vmem S128x1024 .bf16) (harg15 : arg15.IsWhole) (hc0 : ¬cond0_0 i) (hc1 : ¬cond0_1 i)
    (x0 : Vec F S16x32x128 .f32) (x1 : Vec F S16x32x128 .f32) (x2 : Vec F S16x32x128 .f32) (x3 : Vec F S16x32x128 .f32) (x4 : Vec F S16x32x128 .f32) (x5 : Vec F S128x128 .f32) (x6 : Vec F S128x128 .f32) (x7 : Vec F S1x128 .f32) (x8 : Vec F S2x128 .f32) (x9 : Vec F S2048x128 .bf16) (xs0 : Vec F S128x1024 .bf16) (xs1 : Vec F S128x1024 .bf16) :
    sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 = (ps (base x0 x1 x2 x3 x4 x5 x6 x7 x8 x9) 0 xs0 16).1 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1), pieces_B_0, canon_pieces, ld_whole arg1 harg1 _ (by decide), ld_whole arg2 harg2 _ (by decide), ld_whole arg3 harg3 _ (by decide), ld_whole arg4 harg4 _ (by decide), ld_whole arg5 harg5 _ (by decide), ld_whole arg6 harg6 _ (by decide), ld_whole arg7 harg7 _ (by decide), ld_whole arg8 harg8 _ (by decide), ld_whole arg9 harg9 _ (by decide), ld_whole arg10 harg10 _ (by decide), ld_whole arg14 harg14 _ (by decide)]

theorem sout_B_1 (c : Dev nD) (i : grid0.Coords) (arg1 : Memref sig .tc .vmem S16x32x128 .f32) (harg1 : arg1.IsWhole) (arg2 : Memref sig .tc .vmem S16x32x128 .f32) (harg2 : arg2.IsWhole) (arg3 : Memref sig .tc .vmem S16x32x128 .f32) (harg3 : arg3.IsWhole) (arg4 : Memref sig .tc .vmem S16x32x128 .f32) (harg4 : arg4.IsWhole) (arg5 : Memref sig .tc .vmem S16x32x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2x128 .f32) (harg9 : arg9.IsWhole) (arg10 : Memref sig .tc .vmem S2048x128 .bf16) (harg10 : arg10.IsWhole) (arg11 : Memref sig .tc .vmem S16x32x128 .f32) (harg11 : arg11.IsWhole) (arg12 : Memref sig .tc .vmem S16x32x2 .f32) (harg12 : arg12.IsWhole) (arg13 : Memref sig .tc .vmem S128x2048 .f32) (harg13 : arg13.IsWhole) (arg14 : Memref sig .tc .vmem S128x1024 .bf16) (harg14 : arg14.IsWhole) (arg15 : Memref sig .tc .vmem S128x1024 .bf16) (harg15 : arg15.IsWhole) (hc0 : ¬cond0_0 i) (hc1 : ¬cond0_1 i)
    (x0 : Vec F S16x32x128 .f32) (x1 : Vec F S16x32x128 .f32) (x2 : Vec F S16x32x128 .f32) (x3 : Vec F S16x32x128 .f32) (x4 : Vec F S16x32x128 .f32) (x5 : Vec F S128x128 .f32) (x6 : Vec F S128x128 .f32) (x7 : Vec F S1x128 .f32) (x8 : Vec F S2x128 .f32) (x9 : Vec F S2048x128 .bf16) (xs0 : Vec F S128x1024 .bf16) (xs1 : Vec F S128x1024 .bf16) :
    sout0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 = (ps (base x0 x1 x2 x3 x4 x5 x6 x7 x8 x9) 1 xs1 16).1 := by
  unfold sout0_B_1
  rw [View.read_writes_eq_canon _ _ _ (scover0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1), pieces_B_1, canon_pieces, ld_whole arg1 harg1 _ (by decide), ld_whole arg2 harg2 _ (by decide), ld_whole arg3 harg3 _ (by decide), ld_whole arg4 harg4 _ (by decide), ld_whole arg5 harg5 _ (by decide), ld_whole arg6 harg6 _ (by decide), ld_whole arg7 harg7 _ (by decide), ld_whole arg8 harg8 _ (by decide), ld_whole arg9 harg9 _ (by decide), ld_whole arg10 harg10 _ (by decide), ld_whole arg15 harg15 _ (by decide)]

theorem out_B (c : Dev nD) (i : grid0.Coords) (arg1 : Memref sig .tc .vmem S16x32x128 .f32) (harg1 : arg1.IsWhole) (arg2 : Memref sig .tc .vmem S16x32x128 .f32) (harg2 : arg2.IsWhole) (arg3 : Memref sig .tc .vmem S16x32x128 .f32) (harg3 : arg3.IsWhole) (arg4 : Memref sig .tc .vmem S16x32x128 .f32) (harg4 : arg4.IsWhole) (arg5 : Memref sig .tc .vmem S16x32x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2x128 .f32) (harg9 : arg9.IsWhole) (arg10 : Memref sig .tc .vmem S2048x128 .bf16) (harg10 : arg10.IsWhole) (arg11 : Memref sig .tc .vmem S16x32x128 .f32) (harg11 : arg11.IsWhole) (arg12 : Memref sig .tc .vmem S16x32x2 .f32) (harg12 : arg12.IsWhole) (arg13 : Memref sig .tc .vmem S128x2048 .f32) (harg13 : arg13.IsWhole) (arg14 : Memref sig .tc .vmem S128x1024 .bf16) (harg14 : arg14.IsWhole) (arg15 : Memref sig .tc .vmem S128x1024 .bf16) (harg15 : arg15.IsWhole) (hc0 : ¬cond0_0 i) (hc1 : ¬cond0_1 i)
    (x0 : Vec F S16x32x128 .f32) (x1 : Vec F S16x32x128 .f32) (x2 : Vec F S16x32x128 .f32) (x3 : Vec F S16x32x128 .f32) (x4 : Vec F S16x32x128 .f32) (x5 : Vec F S128x128 .f32) (x6 : Vec F S128x128 .f32) (x7 : Vec F S1x128 .f32) (x8 : Vec F S2x128 .f32) (x9 : Vec F S2048x128 .bf16) (xs0 : Vec F S128x1024 .bf16) (xs1 : Vec F S128x1024 .bf16) (y : S16x32x128.Idx) :
    out0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 y = outRow (phid (base x0 x1 x2 x3 x4 x5 x6 x7 x8 x9) 0 xs0 (y 0).val) (phid (base x0 x1 x2 x3 x4 x5 x6 x7 x8 x9) 1 xs1 (y 0).val) (ix3 0 (y 1) (y 2)) := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1), outs_B, canon_outPieces _ _ 16 le_rfl (y 0).val y rfl (y 0).isLt,
    hid_eq, hid_eq, ld_whole arg1 harg1 _ (by decide), ld_whole arg2 harg2 _ (by decide), ld_whole arg3 harg3 _ (by decide), ld_whole arg4 harg4 _ (by decide), ld_whole arg5 harg5 _ (by decide), ld_whole arg6 harg6 _ (by decide), ld_whole arg7 harg7 _ (by decide), ld_whole arg8 harg8 _ (by decide), ld_whole arg9 harg9 _ (by decide), ld_whole arg10 harg10 _ (by decide), ld_whole arg14 harg14 _ (by decide), ld_whole arg15 harg15 _ (by decide)]

theorem agg_B (c : Dev nD) (i : grid0.Coords) (arg1 : Memref sig .tc .vmem S16x32x128 .f32) (harg1 : arg1.IsWhole) (arg2 : Memref sig .tc .vmem S16x32x128 .f32) (harg2 : arg2.IsWhole) (arg3 : Memref sig .tc .vmem S16x32x128 .f32) (harg3 : arg3.IsWhole) (arg4 : Memref sig .tc .vmem S16x32x128 .f32) (harg4 : arg4.IsWhole) (arg5 : Memref sig .tc .vmem S16x32x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2x128 .f32) (harg9 : arg9.IsWhole) (arg10 : Memref sig .tc .vmem S2048x128 .bf16) (harg10 : arg10.IsWhole) (arg11 : Memref sig .tc .vmem S16x32x128 .f32) (harg11 : arg11.IsWhole) (arg12 : Memref sig .tc .vmem S16x32x2 .f32) (harg12 : arg12.IsWhole) (arg13 : Memref sig .tc .vmem S128x2048 .f32) (harg13 : arg13.IsWhole) (arg14 : Memref sig .tc .vmem S128x1024 .bf16) (harg14 : arg14.IsWhole) (arg15 : Memref sig .tc .vmem S128x1024 .bf16) (harg15 : arg15.IsWhole) (hc0 : ¬cond0_0 i) (hc1 : ¬cond0_1 i)
    (x0 : Vec F S16x32x128 .f32) (x1 : Vec F S16x32x128 .f32) (x2 : Vec F S16x32x128 .f32) (x3 : Vec F S16x32x128 .f32) (x4 : Vec F S16x32x128 .f32) (x5 : Vec F S128x128 .f32) (x6 : Vec F S128x128 .f32) (x7 : Vec F S1x128 .f32) (x8 : Vec F S2x128 .f32) (x9 : Vec F S2048x128 .bf16) (xs0 : Vec F S128x1024 .bf16) (xs1 : Vec F S128x1024 .bf16) :
    out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 = agg x0 x8 x3 x1 := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1), aggs_B, View.canon_cons_unit_lit _ _ _ (by decide), ld_whole arg1 harg1 _ (by decide), ld_whole arg9 harg9 _ (by decide), ld_whole arg4 harg4 _ (by decide), ld_whole arg2 harg2 _ (by decide)]

theorem sout_C_0 (c : Dev nD) (i : grid0.Coords) (arg1 : Memref sig .tc .vmem S16x32x128 .f32) (harg1 : arg1.IsWhole) (arg2 : Memref sig .tc .vmem S16x32x128 .f32) (harg2 : arg2.IsWhole) (arg3 : Memref sig .tc .vmem S16x32x128 .f32) (harg3 : arg3.IsWhole) (arg4 : Memref sig .tc .vmem S16x32x128 .f32) (harg4 : arg4.IsWhole) (arg5 : Memref sig .tc .vmem S16x32x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2x128 .f32) (harg9 : arg9.IsWhole) (arg10 : Memref sig .tc .vmem S2048x128 .bf16) (harg10 : arg10.IsWhole) (arg11 : Memref sig .tc .vmem S16x32x128 .f32) (harg11 : arg11.IsWhole) (arg12 : Memref sig .tc .vmem S16x32x2 .f32) (harg12 : arg12.IsWhole) (arg13 : Memref sig .tc .vmem S128x2048 .f32) (harg13 : arg13.IsWhole) (arg14 : Memref sig .tc .vmem S128x1024 .bf16) (harg14 : arg14.IsWhole) (arg15 : Memref sig .tc .vmem S128x1024 .bf16) (harg15 : arg15.IsWhole) (hc0 : ¬cond0_0 i) (hc1 : cond0_1 i)
    (x0 : Vec F S16x32x128 .f32) (x1 : Vec F S16x32x128 .f32) (x2 : Vec F S16x32x128 .f32) (x3 : Vec F S16x32x128 .f32) (x4 : Vec F S16x32x128 .f32) (x5 : Vec F S128x128 .f32) (x6 : Vec F S128x128 .f32) (x7 : Vec F S1x128 .f32) (x8 : Vec F S2x128 .f32) (x9 : Vec F S2048x128 .bf16) (xs0 : Vec F S128x1024 .bf16) (xs1 : Vec F S128x1024 .bf16) :
    sout0_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 = (ps (base x0 x1 x2 x3 x4 x5 x6 x7 x8 x9) 0 xs0 16).1 := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1), pieces_C_0, canon_pieces, ld_whole arg1 harg1 _ (by decide), ld_whole arg2 harg2 _ (by decide), ld_whole arg3 harg3 _ (by decide), ld_whole arg4 harg4 _ (by decide), ld_whole arg5 harg5 _ (by decide), ld_whole arg6 harg6 _ (by decide), ld_whole arg7 harg7 _ (by decide), ld_whole arg8 harg8 _ (by decide), ld_whole arg9 harg9 _ (by decide), ld_whole arg10 harg10 _ (by decide), ld_whole arg14 harg14 _ (by decide)]

theorem sout_C_1 (c : Dev nD) (i : grid0.Coords) (arg1 : Memref sig .tc .vmem S16x32x128 .f32) (harg1 : arg1.IsWhole) (arg2 : Memref sig .tc .vmem S16x32x128 .f32) (harg2 : arg2.IsWhole) (arg3 : Memref sig .tc .vmem S16x32x128 .f32) (harg3 : arg3.IsWhole) (arg4 : Memref sig .tc .vmem S16x32x128 .f32) (harg4 : arg4.IsWhole) (arg5 : Memref sig .tc .vmem S16x32x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2x128 .f32) (harg9 : arg9.IsWhole) (arg10 : Memref sig .tc .vmem S2048x128 .bf16) (harg10 : arg10.IsWhole) (arg11 : Memref sig .tc .vmem S16x32x128 .f32) (harg11 : arg11.IsWhole) (arg12 : Memref sig .tc .vmem S16x32x2 .f32) (harg12 : arg12.IsWhole) (arg13 : Memref sig .tc .vmem S128x2048 .f32) (harg13 : arg13.IsWhole) (arg14 : Memref sig .tc .vmem S128x1024 .bf16) (harg14 : arg14.IsWhole) (arg15 : Memref sig .tc .vmem S128x1024 .bf16) (harg15 : arg15.IsWhole) (hc0 : ¬cond0_0 i) (hc1 : cond0_1 i)
    (x0 : Vec F S16x32x128 .f32) (x1 : Vec F S16x32x128 .f32) (x2 : Vec F S16x32x128 .f32) (x3 : Vec F S16x32x128 .f32) (x4 : Vec F S16x32x128 .f32) (x5 : Vec F S128x128 .f32) (x6 : Vec F S128x128 .f32) (x7 : Vec F S1x128 .f32) (x8 : Vec F S2x128 .f32) (x9 : Vec F S2048x128 .bf16) (xs0 : Vec F S128x1024 .bf16) (xs1 : Vec F S128x1024 .bf16) :
    sout0_C_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 = (ps (base x0 x1 x2 x3 x4 x5 x6 x7 x8 x9) 1 xs1 16).1 := by
  unfold sout0_C_1
  rw [View.read_writes_eq_canon _ _ _ (scover0_C_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1), pieces_C_1, canon_pieces, ld_whole arg1 harg1 _ (by decide), ld_whole arg2 harg2 _ (by decide), ld_whole arg3 harg3 _ (by decide), ld_whole arg4 harg4 _ (by decide), ld_whole arg5 harg5 _ (by decide), ld_whole arg6 harg6 _ (by decide), ld_whole arg7 harg7 _ (by decide), ld_whole arg8 harg8 _ (by decide), ld_whole arg9 harg9 _ (by decide), ld_whole arg10 harg10 _ (by decide), ld_whole arg15 harg15 _ (by decide)]

theorem out_C (c : Dev nD) (i : grid0.Coords) (arg1 : Memref sig .tc .vmem S16x32x128 .f32) (harg1 : arg1.IsWhole) (arg2 : Memref sig .tc .vmem S16x32x128 .f32) (harg2 : arg2.IsWhole) (arg3 : Memref sig .tc .vmem S16x32x128 .f32) (harg3 : arg3.IsWhole) (arg4 : Memref sig .tc .vmem S16x32x128 .f32) (harg4 : arg4.IsWhole) (arg5 : Memref sig .tc .vmem S16x32x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2x128 .f32) (harg9 : arg9.IsWhole) (arg10 : Memref sig .tc .vmem S2048x128 .bf16) (harg10 : arg10.IsWhole) (arg11 : Memref sig .tc .vmem S16x32x128 .f32) (harg11 : arg11.IsWhole) (arg12 : Memref sig .tc .vmem S16x32x2 .f32) (harg12 : arg12.IsWhole) (arg13 : Memref sig .tc .vmem S128x2048 .f32) (harg13 : arg13.IsWhole) (arg14 : Memref sig .tc .vmem S128x1024 .bf16) (harg14 : arg14.IsWhole) (arg15 : Memref sig .tc .vmem S128x1024 .bf16) (harg15 : arg15.IsWhole) (hc0 : ¬cond0_0 i) (hc1 : cond0_1 i)
    (x0 : Vec F S16x32x128 .f32) (x1 : Vec F S16x32x128 .f32) (x2 : Vec F S16x32x128 .f32) (x3 : Vec F S16x32x128 .f32) (x4 : Vec F S16x32x128 .f32) (x5 : Vec F S128x128 .f32) (x6 : Vec F S128x128 .f32) (x7 : Vec F S1x128 .f32) (x8 : Vec F S2x128 .f32) (x9 : Vec F S2048x128 .bf16) (xs0 : Vec F S128x1024 .bf16) (xs1 : Vec F S128x1024 .bf16) (y : S16x32x128.Idx) :
    out0_C_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 y = outRow (phid (base x0 x1 x2 x3 x4 x5 x6 x7 x8 x9) 0 xs0 (y 0).val) (phid (base x0 x1 x2 x3 x4 x5 x6 x7 x8 x9) 1 xs1 (y 0).val) (ix3 0 (y 1) (y 2)) := by
  unfold out0_C_10
  rw [View.read_writes_eq_canon _ _ _ (cover0_C_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1), outs_C, canon_outPieces _ _ 16 le_rfl (y 0).val y rfl (y 0).isLt,
    hid_eq, hid_eq, ld_whole arg1 harg1 _ (by decide), ld_whole arg2 harg2 _ (by decide), ld_whole arg3 harg3 _ (by decide), ld_whole arg4 harg4 _ (by decide), ld_whole arg5 harg5 _ (by decide), ld_whole arg6 harg6 _ (by decide), ld_whole arg7 harg7 _ (by decide), ld_whole arg8 harg8 _ (by decide), ld_whole arg9 harg9 _ (by decide), ld_whole arg10 harg10 _ (by decide), ld_whole arg14 harg14 _ (by decide), ld_whole arg15 harg15 _ (by decide)]

theorem agg_C (c : Dev nD) (i : grid0.Coords) (arg1 : Memref sig .tc .vmem S16x32x128 .f32) (harg1 : arg1.IsWhole) (arg2 : Memref sig .tc .vmem S16x32x128 .f32) (harg2 : arg2.IsWhole) (arg3 : Memref sig .tc .vmem S16x32x128 .f32) (harg3 : arg3.IsWhole) (arg4 : Memref sig .tc .vmem S16x32x128 .f32) (harg4 : arg4.IsWhole) (arg5 : Memref sig .tc .vmem S16x32x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2x128 .f32) (harg9 : arg9.IsWhole) (arg10 : Memref sig .tc .vmem S2048x128 .bf16) (harg10 : arg10.IsWhole) (arg11 : Memref sig .tc .vmem S16x32x128 .f32) (harg11 : arg11.IsWhole) (arg12 : Memref sig .tc .vmem S16x32x2 .f32) (harg12 : arg12.IsWhole) (arg13 : Memref sig .tc .vmem S128x2048 .f32) (harg13 : arg13.IsWhole) (arg14 : Memref sig .tc .vmem S128x1024 .bf16) (harg14 : arg14.IsWhole) (arg15 : Memref sig .tc .vmem S128x1024 .bf16) (harg15 : arg15.IsWhole) (hc0 : ¬cond0_0 i) (hc1 : cond0_1 i)
    (x0 : Vec F S16x32x128 .f32) (x1 : Vec F S16x32x128 .f32) (x2 : Vec F S16x32x128 .f32) (x3 : Vec F S16x32x128 .f32) (x4 : Vec F S16x32x128 .f32) (x5 : Vec F S128x128 .f32) (x6 : Vec F S128x128 .f32) (x7 : Vec F S1x128 .f32) (x8 : Vec F S2x128 .f32) (x9 : Vec F S2048x128 .bf16) (xs0 : Vec F S128x1024 .bf16) (xs1 : Vec F S128x1024 .bf16) :
    out0_C_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 = agg x0 x8 x3 x1 := by
  unfold out0_C_11
  rw [View.read_writes_eq_canon _ _ _ (cover0_C_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1), aggs_C, View.canon_cons_unit_lit _ _ _ (by decide), ld_whole arg1 harg1 _ (by decide), ld_whole arg9 harg9 _ (by decide), ld_whole arg4 harg4 _ (by decide), ld_whole arg2 harg2 _ (by decide)]

theorem memf_out_C (c : Dev nD) (i : grid0.Coords) (arg1 : Memref sig .tc .vmem S16x32x128 .f32) (harg1 : arg1.IsWhole) (arg2 : Memref sig .tc .vmem S16x32x128 .f32) (harg2 : arg2.IsWhole) (arg3 : Memref sig .tc .vmem S16x32x128 .f32) (harg3 : arg3.IsWhole) (arg4 : Memref sig .tc .vmem S16x32x128 .f32) (harg4 : arg4.IsWhole) (arg5 : Memref sig .tc .vmem S16x32x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2x128 .f32) (harg9 : arg9.IsWhole) (arg10 : Memref sig .tc .vmem S2048x128 .bf16) (harg10 : arg10.IsWhole) (arg11 : Memref sig .tc .vmem S16x32x128 .f32) (harg11 : arg11.IsWhole) (arg12 : Memref sig .tc .vmem S16x32x2 .f32) (harg12 : arg12.IsWhole) (arg13 : Memref sig .tc .vmem S128x2048 .f32) (harg13 : arg13.IsWhole) (arg14 : Memref sig .tc .vmem S128x1024 .bf16) (harg14 : arg14.IsWhole) (arg15 : Memref sig .tc .vmem S128x1024 .bf16) (harg15 : arg15.IsWhole) (hc0 : ¬cond0_0 i) (hc1 : cond0_1 i)
    (x0 : Vec F S16x32x128 .f32) (x1 : Vec F S16x32x128 .f32) (x2 : Vec F S16x32x128 .f32) (x3 : Vec F S16x32x128 .f32) (x4 : Vec F S16x32x128 .f32) (x5 : Vec F S128x128 .f32) (x6 : Vec F S128x128 .f32) (x7 : Vec F S1x128 .f32) (x8 : Vec F S2x128 .f32) (x9 : Vec F S2048x128 .bf16) (xs0 : Vec F S128x1024 .bf16) (xs1 : Vec F S128x1024 .bf16) :
    out0_C_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 = k0_pay3 (ps (base x0 x1 x2 x3 x4 x5 x6 x7 x8 x9) 0 xs0 16).1 (ps (base x0 x1 x2 x3 x4 x5 x6 x7 x8 x9) 1 xs1 16).1 := by
  unfold out0_C_12
  rw [View.read_writes_eq_canon _ _ _ (cover0_C_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1), memf_C, View.canon_cons_unit_lit _ _ _ (by decide), (st_eq _ _ _ _ _ 16).1,
    (st_eq _ _ _ _ _ 16).1, ld_whole arg1 harg1 _ (by decide), ld_whole arg2 harg2 _ (by decide), ld_whole arg3 harg3 _ (by decide), ld_whole arg4 harg4 _ (by decide), ld_whole arg5 harg5 _ (by decide), ld_whole arg6 harg6 _ (by decide), ld_whole arg7 harg7 _ (by decide), ld_whole arg8 harg8 _ (by decide), ld_whole arg9 harg9 _ (by decide), ld_whole arg10 harg10 _ (by decide), ld_whole arg14 harg14 _ (by decide), ld_whole arg15 harg15 _ (by decide)]

end Cert.KernelIdeal.Step

end
-- ==== Proof.PointVal.lean ====
/- A grid point's steps in real numbers: what a point leaves is what the recurrence has after its sixteen steps. -/
module

public import proofs.«01_k».proof.Proof.StepVal
public import proofs.«01_k».proof.Proof.Point

@[expose] public section

set_option maxRecDepth 16384

noncomputable section

namespace Cert.KernelIdeal.Step

open Idealize.ShloMosaic Idealize.ShloMosaic.TcCoe Idealize.SL.Sem Idealize.ShloMosaic.Tactic
open Cert.KernelIdeal Cert.KernelIdeal.Gen Cert.Rec Finset

/-- A point's base holds the recurrence's quantities of the sixteen steps from `n0` on, row by row. -/
structure Rep (E : Base Ideal) (I : In) (n0 : ℕ) : Prop where
  xw : ∀ (ρ : Fin 512) (o : Fin 128), E.xw (ix2 ρ o) = I.proj (n0 + ρ.val / 32) (ρ.val % 32) o.val
  w0 : Is E.w0 (fun ρ c => I.wt 0 (n0 + ρ / 32) (ρ % 32) c)
  w1 : Is E.w1 (fun ρ c => I.wt 1 (n0 + ρ / 32) (ρ % 32) c)
  a0 : ∀ (c : Fin 128) (ρ : ℕ) (hρ : ρ < 512), E.acat (ix2 c ⟨ρ, by omega⟩) = ((I.ow 0 (n0 + ρ / 32) (ρ % 32) c.val : ℝ) : EReal)
  a1 : ∀ (c : Fin 128) (ρ : ℕ) (hρ : ρ < 512), E.acat (ix2 c ⟨512 + ρ, by omega⟩) = ((I.ow 1 (n0 + ρ / 32) (ρ % 32) c.val : ℝ) : EReal)
  ae : ∀ (c : Fin 128) (ρ : ℕ) (hρ : ρ < 512), E.acat (ix2 c ⟨1024 + ρ, by omega⟩) = ((I.eo (n0 + ρ / 32) (ρ % 32) c.val : ℝ) : EReal)
  bv : ∀ o : Fin 128, E.bv (ix2 0 o) = I.B o.val
  ub : ∀ k o : Fin 128, E.ub (ix2 k o) = I.U k.val o.val
  fu : ∀ (x : Fin 2048) (o : Fin 128), E.fu (ix2 x o) = I.U (64 * (x.val / 1024) + x.val % 64) o.val
  ro : ∀ n b c, I.ro n b c ≤ 1

/-- The memory of half `h`, packed. -/
def packed (M : ℕ → ℕ → ℕ → ℝ) (h c j : ℕ) : ℝ := M (16 * h + j / 64) c (j % 64)

/-- What step `n` attends to of the packed memory, every batch row against every column. -/
def attended (I : In) (M : ℕ → ℕ → ℕ → ℝ) (n h i j : ℕ) : ℝ := ∑ c ∈ range 128, I.wt (i / 16) n (16 * h + i % 16) c * packed M h c j

theorem Is.congr {a b : ℕ} {φ : FTy} {V : FVec Ideal ⟨2, ![a, b]⟩ φ} {f g : ℕ → ℕ → ℝ} (hV : Is V f)
    (e : ∀ i < a, ∀ j < b, f i j = g i j) : Is V g := fun i j => by rw [hV i j, e i.val i.isLt j.val j.isLt]

variable {E : Base Ideal} {I : In} {n0 : ℕ} (R : Rep E I n0)
include R

theorem off_eq (h t : ℕ) (hh : h < 2) (ht : t < 16) : off h t = 32 * t + 16 * h := by unfold off; omega

theorem w2_is (h t : ℕ) (hh : h < 2) (ht : t < 16) : Is (w2 E h t) (fun i c => I.wt (i / 16) (n0 + t) (16 * h + i % 16) c) := by
  intro i c
  have hi := i.isLt
  have ho := off_eq R h t hh ht
  unfold w2
  pointwise
  split
  · rename_i h1
    rw [R.w0]
    dsimp only
    rw [show (off h t + i.val) / 32 = t by omega, show (off h t + i.val) % 32 = 16 * h + i.val % 16 by omega, show i.val / 16 = 0 by omega]
  · rename_i h1
    rw [R.w1]
    dsimp only
    rw [show (off h t + (i.val - 16)) / 32 = t by omega, show (off h t + (i.val - 16)) % 32 = 16 * h + i.val % 16 by omega, show i.val / 16 = 1 by omega]

theorem tcat_is (h t : ℕ) (hh : h < 2) (ht : t < 16) : Is (tcat E h t) (fun c q => I.ow (q / 16) (n0 + t) (16 * h + q % 16) c) := by
  intro c q
  have hq := q.isLt
  have ho := off_eq R h t hh ht
  unfold tcat
  pointwise
  split
  · rename_i h1
    refine Eq.trans (congrArg (fun x => E.acat (ix2 c x)) (Fin.ext ?_)) ((R.a0 c (off h t + q.val) (by omega)).trans ?_)
    · rfl
    · rw [show (off h t + q.val) / 32 = t by omega, show (off h t + q.val) % 32 = 16 * h + q.val % 16 by omega, show q.val / 16 = 0 by omega]
  · rename_i h1
    refine Eq.trans (congrArg (fun x => E.acat (ix2 c x)) (Fin.ext ?_)) ((R.a1 c (off h t + (q.val - 16)) (by omega)).trans ?_)
    · show 512 * 1 + off h t + (q.val - 16) = 512 + (off h t + (q.val - 16))
      omega
    · rw [show (off h t + (q.val - 16)) / 32 = t by omega, show (off h t + (q.val - 16)) % 32 = 16 * h + q.val % 16 by omega, show q.val / 16 = 1 by omega]

theorem tce_is (h t : ℕ) (hh : h < 2) (ht : t < 16) : Is (tce E h t) (fun c q => I.eo (n0 + t) (16 * h + q) c) := by
  intro c q
  have hq := q.isLt
  have ho := off_eq R h t hh ht
  unfold tce
  pointwise
  refine Eq.trans (congrArg (fun x => E.acat (ix2 c x)) (Fin.ext ?_)) ((R.ae c (off h t + q.val) (by omega)).trans ?_)
  · show 512 * 2 + off h t + q.val = 1024 + (off h t + q.val)
    omega
  · rw [show (off h t + q.val) / 32 = t by omega, show (off h t + q.val) % 32 = 16 * h + q.val by omega]

theorem xwt_apply (h t : ℕ) (hh : h < 2) (ht : t < 16) (i : Fin 16) (o : Fin 128) :
    xwt E h t (ix2 i o) = I.proj (n0 + t) (16 * h + i.val) o.val := by
  have hi := i.isLt
  have ho := off_eq R h t hh ht
  unfold xwt
  pointwise
  rw [R.xw]
  dsimp only
  rw [show (off h t + i.val) / 32 = t by omega, show (off h t + i.val) % 32 = 16 * h + i.val by omega]

theorem sval_is (h t : ℕ) (hh : h < 2) (ht : t + 1 < 16) : Is (sval E h t)
    (fun i q => ∑ c ∈ range 128, I.wt (i / 16) (n0 + (t + 1)) (16 * h + i % 16) c * I.ow (q / 16) (n0 + t) (16 * h + q % 16) c) := by
  intro i q
  unfold sval
  pointwise
  exact sum_mul_coe (fun c => I.wt (i.val / 16) (n0 + (t + 1)) (16 * h + i.val % 16) c) (fun c => I.ow (q.val / 16) (n0 + t) (16 * h + q.val % 16) c)
    (fun c => w2_is R h (t + 1) hh ht i c) (fun c => tcat_is R h t hh (by omega) c q)

omit R in
theorem hinOf_attended (M : ℕ → ℕ → ℕ → ℝ) (n h i : ℕ) (hi : i < 16) : hinOf (attended I M n h) i = I.hin M n (16 * h + i) := by
  funext o
  unfold hinOf attended In.hin packed
  refine sum_congr rfl fun c _ => ?_
  rw [show (i + 16 * (o / 64)) / 16 = o / 64 by omega, show (i + 16 * (o / 64)) % 16 = i by omega,
    show (i * 64 + o % 64) / 64 = i by omega, show (i * 64 + o % 64) % 64 = o % 64 by omega]

theorem hidden_is (M : ℕ → ℕ → ℕ → ℝ) (h t : ℕ) (hh : h < 2) (ht : t < 16) {p : FVec Ideal S32x1024 .f32}
    (hp : Is p (attended I M (n0 + t) h)) :
    Is (hidden E (xwt E h t) p) (fun i o => I.hnew (n0 + t) (16 * h + i) (I.hin M (n0 + t) (16 * h + i)) o) := by
  have hg : Is (gate E.bv (xwt E h t) (hu E.fu p)) (fun i o => I.gate (n0 + t) (16 * h + i) (I.hin M (n0 + t) (16 * h + i)) o) := by
    intro i o
    unfold gate
    pointwise
    rw [xwt_apply R h t hh ht, hu_is hp R.fu, R.bv, hinOf_attended M _ _ _ i.isLt]
    exact logistic_real _
  have hH : Is (hin p) (fun i o => I.hin M (n0 + t) (16 * h + i) o) :=
    (hin_is hp).congr fun i hi o _ => by rw [hinOf_attended M _ _ _ hi]
  have hc : Is (cand E.bv E.ub (xwt E h t) (gate E.bv (xwt E h t) (hu E.fu p)) (hin p))
      (fun i o => I.cand (n0 + t) (16 * h + i) (I.hin M (n0 + t) (16 * h + i)) o) := by
    intro i o
    unfold cand
    pointwise
    rw [xwt_apply R h t hh ht, R.bv]
    have e : (∑ x : Fin 128, gate E.bv (xwt E h t) (hu E.fu p) (ix2 i x) * hin p (ix2 i x) * E.ub (ix2 x o))
        = ∑ k ∈ range 128, ((I.gate (n0 + t) (16 * h + i.val) (I.hin M (n0 + t) (16 * h + i.val)) k * I.hin M (n0 + t) (16 * h + i.val) k : ℝ) : EReal) * I.U k o.val := by
      rw [Finset.sum_range]
      refine sum_congr rfl fun x _ => ?_
      rw [hg i x, hH i x, R.ub, EReal.coe_mul]
    rw [e]
    exact tanh_real _
  intro i o
  unfold hidden mix
  pointwise
  rw [hg i o, hH i o, hc i o]
  simp only [In.hnew]
  rw [EReal.coe_add, EReal.coe_mul, EReal.coe_mul, EReal.coe_sub]
  rfl

omit R in
/-- What a step puts at a packed column: only the column's own batch row takes part. -/
theorem put (a H : ℕ → ℕ → ℝ) (j : ℕ) (hj : j < 1024) :
    (∑ k ∈ range 32, a (k / 16) (k % 16) * (if j / 64 = k % 16 then H (k % 16) (64 * (k / 16) + j % 64) else 0))
      = a 0 (j / 64) * H (j / 64) (j % 64) + a 1 (j / 64) * H (j / 64) (64 + j % 64) := by
  rw [show 32 = 16 + 16 from rfl, sum_range_add]
  congr 1
  · rw [← sum_pick 16 (j / 64) (by omega) (fun k => j / 64 = k) (fun k _ => eq_comm) (fun k => a 0 k * H k (j % 64))]
    refine sum_congr rfl fun k hk => ?_
    have := mem_range.mp hk
    rw [show k / 16 = 0 by omega, show k % 16 = k by omega, show 64 * 0 + j % 64 = j % 64 by omega]
    split <;> simp
  · rw [← sum_pick 16 (j / 64) (by omega) (fun k => j / 64 = k) (fun k _ => eq_comm) (fun k => a 1 k * H k (64 + j % 64))]
    refine sum_congr rfl fun k hk => ?_
    have := mem_range.mp hk
    rw [show (16 + k) / 16 = 1 by omega, show (16 + k) % 16 = k by omega, show 64 * 1 + j % 64 = 64 + j % 64 by omega]
    split <;> simp

omit R in
theorem packed_next (hro : ∀ n b c, I.ro n b c ≤ 1) (M : ℕ → ℕ → ℕ → ℝ) (n h c j : ℕ) (hj : j < 1024) :
    packed M h c j * (1 - I.eo n (16 * h + j / 64) c)
      + (∑ k ∈ range 32, I.ow (k / 16) n (16 * h + k % 16) c
        * (if j / 64 = k % 16 then I.hnew n (16 * h + k % 16) (I.hin M n (16 * h + k % 16)) (64 * (k / 16) + j % 64) else 0))
      = packed (I.next M n) h c j := by
  rw [put (fun r k => I.ow r n (16 * h + k) c) (fun k o => I.hnew n (16 * h + k) (I.hin M n (16 * h + k)) o) j hj]
  unfold packed In.next In.ow
  have := hro n (16 * h + j / 64) c
  rcases Nat.le_one_iff_eq_zero_or_eq_one.mp this with e | e
  · simp only [e]
    norm_num
    ring
  · simp only [e]
    norm_num
    ring

/-- Before step `t` of a point the memory and what the step attends to are the recurrence's. -/
theorem ps_is (h : ℕ) (hh : h < 2) {Mv : FVec Ideal S128x1024 .bf16} (hM : Is Mv (packed (I.mem n0) h)) :
    ∀ t ≤ 16, Is (ps E h Mv t).1 (packed (I.mem (n0 + t)) h) ∧ (t < 16 → Is (ps E h Mv t).2 (attended I (I.mem (n0 + t)) (n0 + t) h))
  | 0, _ => ⟨hM, fun _ => attend_is (w2_is R h 0 hh (by omega)) hM⟩
  | t + 1, ht => by
    obtain ⟨h1, h2⟩ := ps_is h hh hM t (by omega)
    have h3 := hidden_is R (I.mem (n0 + t)) h t hh (by omega) (h2 (by omega))
    have hd := decayed_is (tce_is R h t hh (by omega)) h1
    have hg := spread_is h3
    have hw := written_is (tcat_is R h t hh (by omega)) hd hg
    have key : ∀ c < 128, ∀ j < 1024, _ = packed (I.mem (n0 + (t + 1))) h c j := fun c _ j hj =>
      packed_next R.ro (I.mem (n0 + t)) (n0 + t) h c j hj
    refine ⟨hw.congr key, fun ht' => ?_⟩
    refine (attendNext_is (w2_is R h (t + 1) hh ht') (sval_is R h t hh ht') hd hg).congr fun i hi j hj => ?_
    unfold attended
    rw [sum_congr rfl fun c hc => congrArg (fun z => I.wt (i / 16) (n0 + (t + 1)) (16 * h + i % 16) c * z) (key c (mem_range.mp hc) j hj).symm]
    simp only [mul_add, sum_add_distrib, mul_sum, sum_mul]
    rw [sum_comm]
    simp only [mul_assoc]

theorem phid_is (h : ℕ) (hh : h < 2) {Mv : FVec Ideal S128x1024 .bf16} (hM : Is Mv (packed (I.mem n0) h)) (t : ℕ) (ht : t < 16) :
    Is (phid E h Mv t) (fun i o => I.out (n0 + t) (16 * h + i) o) :=
  hidden_is R (I.mem (n0 + t)) h t hh ht ((ps_is R h hh hM t (by omega)).2 ht)

end Cert.KernelIdeal.Step

end
-- ==== Proof.Fold.lean ====
/- The grid's points one after another: the memory each leaves for the next, and what the three result blocks hold after each. -/
module

public import proofs.«01_k».proof.Proof.Point

@[expose] public section

set_option maxRecDepth 16384

noncomputable section

namespace Cert.KernelIdeal.Step

open Idealize.ShloMosaic Idealize.ShloMosaic.TcCoe Idealize.SL.Sem Idealize.ShloMosaic.Tactic
open Cert.KernelIdeal Cert.KernelIdeal.Gen

variable {F : FTy → Type} [FloatOps F] (m : (ℓ : Loc nD τ sig) → Buf (Elt F) ℓ) (c : Dev nD)

/-- Point `n` of the grid (point 0 past the end). -/
def pt (n : ℕ) : Fin cfg0.N := if h : n < cfg0.N then ⟨n, h⟩ else ⟨0, by decide⟩

theorem pt_val (t : Fin cfg0.N) : pt t.val = t := dif_pos t.isLt

/-- The base of a point's blocks. -/
def bs (t : Fin cfg0.N) : Base F :=
  base (iblk m c 0 t) (iblk m c 1 t) (iblk m c 2 t) (iblk m c 3 t) (iblk m c 4 t) (iblk m c 5 t) (iblk m c 6 t) (iblk m c 7 t)
    (iblk m c 8 t) (iblk m c 9 t)

/-- The memory of half `h` before point `n`. -/
def K (h : ℕ) : ℕ → FVec F S128x1024 .bf16
  | 0 => k0_pay4
  | n + 1 => (ps (bs m c (pt n)) h (K h n) 16).1

/-- What point `t` leaves: the memories, its rows of results, its aggregates, and at the last point the memory put together. -/
structure Left (t : Fin cfg0.N) (o : Vec F S16x32x128 .f32 × Vec F S16x32x2 .f32 × Vec F S128x2048 .f32 × Vec F S128x1024 .bf16 × Vec F S128x1024 .bf16) : Prop where
  mem0 : o.2.2.2.1 = K m c 0 (t.val + 1)
  mem1 : o.2.2.2.2 = K m c 1 (t.val + 1)
  out : ∀ y, o.1 y = outRow (phid (bs m c t) 0 (K m c 0 t.val) (y 0).val) (phid (bs m c t) 1 (K m c 1 t.val) (y 0).val) (ix3 0 (y 1) (y 2))
  agg : o.2.1 = Step.agg (iblk m c 0 t) (iblk m c 8 t) (iblk m c 3 t) (iblk m c 1 t)
  fin : t.val = 31 → o.2.2.1 = k0_pay3 (K m c 0 (t.val + 1)) (K m c 1 (t.val + 1))

theorem K_succ (h : ℕ) (t : Fin cfg0.N) : K m c h (t.val + 1) = (ps (bs m c t) h (K m c h t.val) 16).1 := by
  show (ps (bs m c (pt t.val)) h (K m c h t.val) 16).1 = _
  rw [pt_val]

theorem K_zero (h : ℕ) : K m c h 0 = k0_pay4 := rfl

theorem pay4_eq_pay5 : (k0_pay4 : FVec F S128x1024 .bf16) = k0_pay5 := rfl

attribute [local irreducible] ps phid Step.agg base K k0_pay4 k0_pay5 k0_pay3 outRow sout0_A_0 sout0_A_1 sout0_B_0 sout0_B_1 sout0_C_0 sout0_C_1 out0_A_10 out0_A_11 out0_B_10 out0_B_11 out0_C_10 out0_C_11 out0_C_12

theorem left_A (t : Fin cfg0.N) (ht : t.val = 0) : Left m c t (outsAt0 m c t.val t.isLt) := by
  have e0 : K m c 0 t.val = k0_pay4 := (congrArg _ ht).trans (K_zero m c 0)
  have e1 : K m c 1 t.val = k0_pay5 := ((congrArg _ ht).trans (K_zero m c 1)).trans pay4_eq_pay5
  rw [outsAt0_A m c t (by omega) (by omega)]
  refine ⟨?_, ?_, fun y => ?_, ?_, fun h => absurd h (by omega)⟩
  · rw [K_succ, e0]; dsimp only; exact sout_A_0 (F := F) ..
  · rw [K_succ, e1]; dsimp only; exact sout_A_1 (F := F) ..
  · rw [e0, e1]; dsimp only; exact out_A (F := F) ..
  · dsimp only; exact agg_A (F := F) ..

theorem left_B (t : Fin cfg0.N) (h0 : ¬ t.val % 32 = 0) (h1 : ¬ t.val % 32 = 31)
    (e0 : (outsAt0 m c (t.val - 1) (Nat.lt_of_le_of_lt (Nat.sub_le ..) t.isLt)).2.2.2.1 = K m c 0 t.val)
    (e1 : (outsAt0 m c (t.val - 1) (Nat.lt_of_le_of_lt (Nat.sub_le ..) t.isLt)).2.2.2.2 = K m c 1 t.val) :
    Left m c t (outsAt0 m c t.val t.isLt) := by
  rw [outsAt0_B m c t h0 h1]
  refine ⟨?_, ?_, fun y => ?_, ?_, fun h => absurd h (by omega)⟩
  · rw [K_succ, ← e0]; dsimp only; exact sout_B_0 (F := F) ..
  · rw [K_succ, ← e1]; dsimp only; exact sout_B_1 (F := F) ..
  · rw [← e0, ← e1]; dsimp only; exact out_B (F := F) ..
  · dsimp only; exact agg_B (F := F) ..

theorem left_C (t : Fin cfg0.N) (ht : t.val = 31)
    (e0 : (outsAt0 m c (t.val - 1) (Nat.lt_of_le_of_lt (Nat.sub_le ..) t.isLt)).2.2.2.1 = K m c 0 t.val)
    (e1 : (outsAt0 m c (t.val - 1) (Nat.lt_of_le_of_lt (Nat.sub_le ..) t.isLt)).2.2.2.2 = K m c 1 t.val) :
    Left m c t (outsAt0 m c t.val t.isLt) := by
  rw [outsAt0_C m c t (by omega) (by omega)]
  refine ⟨?_, ?_, fun y => ?_, ?_, fun h => ?_⟩
  · rw [K_succ, ← e0]; dsimp only; exact sout_C_0 (F := F) ..
  · rw [K_succ, ← e1]; dsimp only; exact sout_C_1 (F := F) ..
  · rw [← e0, ← e1]; dsimp only; exact out_C (F := F) ..
  · dsimp only; exact agg_C (F := F) ..
  · rw [K_succ, K_succ, ← e0, ← e1]; dsimp only; exact memf_out_C (F := F) ..

theorem left : ∀ (n : ℕ) (hn : n < cfg0.N), Left m c ⟨n, hn⟩ (outsAt0 m c n hn)
  | 0, hn => left_A m c ⟨0, hn⟩ rfl
  | n + 1, hn => by
    have ih := left n (Nat.lt_of_succ_lt hn)
    have hN : n + 1 < 32 := lt_of_lt_of_eq hn N_0
    by_cases h1 : n + 1 = 31
    · exact left_C m c ⟨n + 1, hn⟩ h1 ih.mem0 ih.mem1
    · exact left_B m c ⟨n + 1, hn⟩ (by show ¬ (n + 1) % 32 = 0; omega) (by show ¬ (n + 1) % 32 = 31; omega) ih.mem0 ih.mem1

end Cert.KernelIdeal.Step

end
-- ==== Proof.Blocks.lean ====
/- The blocks a grid point loads, in the arguments' entries. -/
module

public import proofs.«01_k».proof.Proof.Fold
public import Idealize.ShloMosaic.Lib.Pipeline.ValueKit
public import Idealize.ShloMosaic.Lib.Pointwise

@[expose] public section

set_option maxRecDepth 16384

noncomputable section

namespace Cert.KernelIdeal.Step

open Idealize.ShloMosaic Idealize.ShloMosaic.TcCoe Idealize.SL.Sem Idealize.ShloMosaic.Tactic
open Cert.KernelIdeal Cert.KernelIdeal.Gen

variable (m : (ℓ : Loc nD τ sig) → Buf (Elt Ideal) ℓ) (c : Dev nD)

theorem lt512 (t : Fin cfg0.N) (i : Fin 16) : 16 * t.val + i.val < 512 := by
  have h := lt_of_lt_of_eq t.isLt N_0
  have := i.isLt
  omega

theorem idx0 : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)

theorem idx1 : ∀ t : Fin cfg0.N, win0_1.index t 0 = t.val ∧ win0_1.index t 1 = 0 ∧ win0_1.index t 2 = 0 :=
  (by decide +kernel : ∀ t : Fin grid0.N, win0_1.index t 0 = t.val ∧ win0_1.index t 1 = 0 ∧ win0_1.index t 2 = 0)

theorem idx2 : ∀ t : Fin cfg0.N, win0_2.index t 0 = t.val ∧ win0_2.index t 1 = 0 ∧ win0_2.index t 2 = 0 :=
  (by decide +kernel : ∀ t : Fin grid0.N, win0_2.index t 0 = t.val ∧ win0_2.index t 1 = 0 ∧ win0_2.index t 2 = 0)

theorem idx3 : ∀ t : Fin cfg0.N, win0_3.index t 0 = t.val ∧ win0_3.index t 1 = 0 ∧ win0_3.index t 2 = 0 :=
  (by decide +kernel : ∀ t : Fin grid0.N, win0_3.index t 0 = t.val ∧ win0_3.index t 1 = 0 ∧ win0_3.index t 2 = 0)

theorem idx4 : ∀ t : Fin cfg0.N, win0_4.index t 0 = t.val ∧ win0_4.index t 1 = 0 ∧ win0_4.index t 2 = 0 :=
  (by decide +kernel : ∀ t : Fin grid0.N, win0_4.index t 0 = t.val ∧ win0_4.index t 1 = 0 ∧ win0_4.index t 2 = 0)

theorem idx5 : ∀ t : Fin cfg0.N, win0_5.index t 0 = 0 ∧ win0_5.index t 1 = 0 :=
  (by decide +kernel : ∀ t : Fin grid0.N, win0_5.index t 0 = 0 ∧ win0_5.index t 1 = 0)

theorem idx6 : ∀ t : Fin cfg0.N, win0_6.index t 0 = 0 ∧ win0_6.index t 1 = 0 :=
  (by decide +kernel : ∀ t : Fin grid0.N, win0_6.index t 0 = 0 ∧ win0_6.index t 1 = 0)

theorem idx7 : ∀ t : Fin cfg0.N, win0_7.index t 0 = 0 ∧ win0_7.index t 1 = 0 :=
  (by decide +kernel : ∀ t : Fin grid0.N, win0_7.index t 0 = 0 ∧ win0_7.index t 1 = 0)

theorem idx8 : ∀ t : Fin cfg0.N, win0_8.index t 0 = 0 ∧ win0_8.index t 1 = 0 :=
  (by decide +kernel : ∀ t : Fin grid0.N, win0_8.index t 0 = 0 ∧ win0_8.index t 1 = 0)

theorem idx9 : ∀ t : Fin cfg0.N, win0_9.index t 0 = 0 ∧ win0_9.index t 1 = 0 :=
  (by decide +kernel : ∀ t : Fin grid0.N, win0_9.index t 0 = 0 ∧ win0_9.index t 1 = 0)

theorem blk0 (t : Fin cfg0.N) (i : Fin 16) (j : Fin 32) (k : Fin 128) :
    (iblk m c 0 t : Vec Ideal S16x32x128 .f32) (ix3 i j k) = m ((c : Thread nD τ).loc main_arg0) (ix3 j ⟨16 * t.val + i.val, lt512 t i⟩ k) := by
  obtain ⟨e0, e1, e2⟩ := idx0 t
  blk_simp [iblk]
  entry_read
  pointwise
  blk_ext <;> omega

theorem blk1 (t : Fin cfg0.N) (i : Fin 16) (j : Fin 32) (k : Fin 128) :
    (iblk m c 1 t : Vec Ideal S16x32x128 .f32) (ix3 i j k) = m ((c : Thread nD τ).loc main_arg2) (ix3 j ⟨16 * t.val + i.val, lt512 t i⟩ k) := by
  obtain ⟨e0, e1, e2⟩ := idx1 t
  blk_simp [iblk]
  entry_read
  pointwise
  blk_ext <;> omega

theorem blk2 (t : Fin cfg0.N) (i : Fin 16) (j : Fin 32) (k : Fin 128) :
    (iblk m c 2 t : Vec Ideal S16x32x128 .f32) (ix3 i j k) = m ((c : Thread nD τ).loc main_arg3) (ix3 j ⟨16 * t.val + i.val, lt512 t i⟩ k) := by
  obtain ⟨e0, e1, e2⟩ := idx2 t
  blk_simp [iblk]
  entry_read
  pointwise
  blk_ext <;> omega

theorem blk3 (t : Fin cfg0.N) (i : Fin 16) (j : Fin 32) (k : Fin 128) :
    (iblk m c 3 t : Vec Ideal S16x32x128 .f32) (ix3 i j k)
      = FloatOps.sitofp (F := Ideal) FTy.f32 (m ((c : Thread nD τ).loc main_arg8) (ix3 j ⟨16 * t.val + i.val, lt512 t i⟩ k)) := by
  obtain ⟨e0, e1, e2⟩ := idx3 t
  blk_simp [iblk]
  entry_read
  pointwise
  refine congrArg (FloatOps.sitofp (F := Ideal) FTy.f32) ?_
  blk_ext <;> omega

theorem blk4 (t : Fin cfg0.N) (i : Fin 16) (j : Fin 32) (k : Fin 128) :
    (iblk m c 4 t : Vec Ideal S16x32x128 .f32) (ix3 i j k)
      = FloatOps.sitofp (F := Ideal) FTy.f32 (m ((c : Thread nD τ).loc main_arg9) (ix3 j ⟨16 * t.val + i.val, lt512 t i⟩ k)) := by
  obtain ⟨e0, e1, e2⟩ := idx4 t
  blk_simp [iblk]
  entry_read
  pointwise
  refine congrArg (FloatOps.sitofp (F := Ideal) FTy.f32) ?_
  blk_ext <;> omega

theorem blk5 (t : Fin cfg0.N) (i : Fin 128) (j : Fin 128) :
    (iblk m c 5 t : Vec Ideal S128x128 .f32) (ix2 i j) = m ((c : Thread nD τ).loc main_arg4) (ix2 i j) := by
  obtain ⟨e0, e1⟩ := idx5 t
  blk_simp [iblk]
  entry_read
  pointwise
  blk_ext <;> omega

theorem blk6 (t : Fin cfg0.N) (i : Fin 128) (j : Fin 128) :
    (iblk m c 6 t : Vec Ideal S128x128 .f32) (ix2 i j) = m ((c : Thread nD τ).loc main_arg5) (ix2 i j) := by
  obtain ⟨e0, e1⟩ := idx6 t
  blk_simp [iblk]
  entry_read
  pointwise
  blk_ext <;> omega

theorem blk8 (t : Fin cfg0.N) (i : Fin 2) (j : Fin 128) :
    (iblk m c 8 t : Vec Ideal S2x128 .f32) (ix2 i j) = m ((c : Thread nD τ).loc main_arg7) (ix2 i j) := by
  obtain ⟨e0, e1⟩ := idx8 t
  blk_simp [iblk]
  entry_read
  pointwise
  blk_ext <;> omega

theorem blk7 (t : Fin cfg0.N) (j : Fin 128) :
    (iblk m c 7 t : Vec Ideal S1x128 .f32) (ix2 0 j) = m ((c : Thread nD τ).loc main_arg6) (ix1 j) := by
  obtain ⟨e0, e1⟩ := idx7 t
  blk_simp [iblk]
  entry_read
  pointwise
  blk_ext <;> omega

theorem blk9 (t : Fin cfg0.N) (i : Fin 2048) (j : Fin 128) :
    (iblk m c 9 t : Vec Ideal S2048x128 .bf16) (ix2 i j)
      = m ((c : Thread nD τ).loc main_arg5) (ix2 ⟨64 * (i.val / 1024) + i.val % 64, by omega⟩ j) := by
  obtain ⟨e0, e1⟩ := idx9 t
  blk_simp [iblk]
  entry_read
  pointwise
  split
  · rename_i h
    blk_simp at h
    blk_ext <;> omega
  · rename_i h
    blk_simp at h
    blk_ext <;> omega

end Cert.KernelIdeal.Step

end
-- ==== Proof.Args.lean ====
/- The recurrence's arguments, out of the programs' argument arrays. -/
module

public import proofs.«01_k».proof.Proof.Spec

@[expose] public section

noncomputable section

namespace Cert.Rec

open Idealize.ShloMosaic Finset

/-- The programs' argument arrays. -/
structure Arrays where
  X : Vec Ideal ⟨3, ![32, 512, 128]⟩ .f32
  M : Vec Ideal ⟨2, ![32, 512]⟩ .f32
  Ei : Vec Ideal ⟨3, ![32, 512, 128]⟩ .f32
  Eo : Vec Ideal ⟨3, ![32, 512, 128]⟩ .f32
  W : Vec Ideal ⟨2, ![128, 128]⟩ .f32
  U : Vec Ideal ⟨2, ![128, 128]⟩ .f32
  B : Vec Ideal ⟨1, ![128]⟩ .f32
  A : Vec Ideal ⟨2, ![2, 128]⟩ .f32
  Ri : Vec Ideal ⟨3, ![32, 512, 128]⟩ .i32
  Ro : Vec Ideal ⟨3, ![32, 512, 128]⟩ .i32

/-- Where an array of batch rows, steps and chains keeps step `n`, batch row `b`, chain `c`. -/
def at3 (n b c : ℕ) : (⟨3, ![32, 512, 128]⟩ : Shape).Idx := ix3 (Fin.ofNat 32 b) (Fin.ofNat 512 n) (Fin.ofNat 128 c)

theorem at3_eq (n : Fin 512) (b : Fin 32) (c : Fin 128) : at3 n.val b.val c.val = ix3 b n c := by
  unfold at3
  rw [Fin.ofNat_val_eq_self, Fin.ofNat_val_eq_self, Fin.ofNat_val_eq_self]

/-- Their entries, as the recurrence takes them. -/
def Arrays.toIn (a : Arrays) : In where
  x n b k := EReal.toReal (a.X (at3 n b k))
  ei n b c := a.Ei (at3 n b c)
  eo n b c := EReal.toReal (a.Eo (at3 n b c))
  ri n b c := BitVec.toNat (a.Ri (at3 n b c))
  ro n b c := BitVec.toNat (a.Ro (at3 n b c))
  W k o := a.W (ix2 (Fin.ofNat 128 k) (Fin.ofNat 128 o))
  U k o := a.U (ix2 (Fin.ofNat 128 k) (Fin.ofNat 128 o))
  B o := a.B (ix1 (Fin.ofNat 128 o))
  A r k := EReal.toReal (a.A (ix2 (Fin.ofNat 2 r) (Fin.ofNat 128 k)))

/-- What is asked of them. -/
structure Arrays.Ok (a : Arrays) : Prop where
  X : ∀ i, a.X i = ((EReal.toReal (a.X i) : ℝ) : EReal)
  M : ∀ i, a.M i = (1 : EReal)
  Ei : ∀ i, (0 : EReal) ≤ a.Ei i
  Eo : ∀ i, a.Eo i = ((EReal.toReal (a.Eo i) : ℝ) : EReal)
  A : ∀ i, a.A i = ((EReal.toReal (a.A i) : ℝ) : EReal)
  Ri : ∀ i, a.Ri i = 0#32 ∨ a.Ri i = 1#32
  Ro : ∀ i, a.Ro i = 0#32 ∨ a.Ro i = 1#32

namespace Arrays
variable {a : Arrays}

theorem x_eq (ok : a.Ok) (n : Fin 512) (b : Fin 32) (k : Fin 128) : a.X (ix3 b n k) = ((a.toIn.x n.val b.val k.val : ℝ) : EReal) := by
  rw [ok.X]; unfold toIn; dsimp only; rw [at3_eq]

theorem ei_eq (n : Fin 512) (b : Fin 32) (k : Fin 128) : a.Ei (ix3 b n k) = a.toIn.ei n.val b.val k.val := by
  unfold toIn; dsimp only; rw [at3_eq]

theorem eo_eq (ok : a.Ok) (n : Fin 512) (b : Fin 32) (k : Fin 128) : a.Eo (ix3 b n k) = ((a.toIn.eo n.val b.val k.val : ℝ) : EReal) := by
  rw [ok.Eo]; unfold toIn; dsimp only; rw [at3_eq]

theorem A_eq (ok : a.Ok) (r : Fin 2) (k : Fin 128) : a.A (ix2 r k) = ((a.toIn.A r.val k.val : ℝ) : EReal) := by
  rw [ok.A]; unfold toIn; dsimp only; rw [Fin.ofNat_val_eq_self, Fin.ofNat_val_eq_self]

theorem W_eq (k o : Fin 128) : a.W (ix2 k o) = a.toIn.W k.val o.val := by
  unfold toIn; dsimp only; rw [Fin.ofNat_val_eq_self, Fin.ofNat_val_eq_self]

theorem U_eq (k o : Fin 128) : a.U (ix2 k o) = a.toIn.U k.val o.val := by
  unfold toIn; dsimp only; rw [Fin.ofNat_val_eq_self, Fin.ofNat_val_eq_self]

theorem B_eq (o : Fin 128) : a.B (ix1 o) = a.toIn.B o.val := by
  unfold toIn; dsimp only; rw [Fin.ofNat_val_eq_self]

theorem ri_cases (ok : a.Ok) (n : Fin 512) (b : Fin 32) (c : Fin 128) :
    (a.Ri (ix3 b n c) = 0#32 ∧ a.toIn.ri n.val b.val c.val = 0) ∨ (a.Ri (ix3 b n c) = 1#32 ∧ a.toIn.ri n.val b.val c.val = 1) := by
  unfold toIn; dsimp only; rw [at3_eq]
  rcases ok.Ri (ix3 b n c) with h | h
  · exact Or.inl ⟨h, by rw [h]; rfl⟩
  · exact Or.inr ⟨h, by rw [h]; rfl⟩

theorem ro_cases (ok : a.Ok) (n : Fin 512) (b : Fin 32) (c : Fin 128) :
    (a.Ro (ix3 b n c) = 0#32 ∧ a.toIn.ro n.val b.val c.val = 0) ∨ (a.Ro (ix3 b n c) = 1#32 ∧ a.toIn.ro n.val b.val c.val = 1) := by
  unfold toIn; dsimp only; rw [at3_eq]
  rcases ok.Ro (ix3 b n c) with h | h
  · exact Or.inl ⟨h, by rw [h]; rfl⟩
  · exact Or.inr ⟨h, by rw [h]; rfl⟩

theorem ri_le (ok : a.Ok) (n b c : ℕ) : a.toIn.ri n b c ≤ 1 := by
  unfold toIn; dsimp only
  rcases ok.Ri (at3 n b c) with h | h <;> rw [h] <;> decide

theorem ro_le (ok : a.Ok) (n b c : ℕ) : a.toIn.ro n b c ≤ 1 := by
  unfold toIn; dsimp only
  rcases ok.Ro (at3 n b c) with h | h <;> rw [h] <;> decide

theorem aexp_nonneg (ok : a.Ok) (n b c : ℕ) : 0 ≤ a.toIn.aexp n b c :=
  mul_nonneg (EReal.coe_nonneg.mpr (Real.exp_pos _).le) (ok.Ei _)

/-- The attention's quotient, as the programs take it. -/
theorem div_tot (ok : a.Ok) (n b : ℕ) (c : Fin 128) {s : EReal} (hs : s = ∑ c ∈ range 128, a.toIn.aexp n b c) :
    Ideal.div (a.toIn.aexp n b c.val) (s + Ideal.ofBits .f32 841731191#32) = ((a.toIn.probs n b c.val : ℝ) : EReal) := by
  rw [hs, eps_pos_coe.2]
  exact share_real (aexp_nonneg ok n b c.val) (single_le_sum (fun c _ => aexp_nonneg ok n b c) (mem_range.mpr c.isLt)) eps_pos_coe.1

end Arrays

end Cert.Rec

end
-- ==== Proof.BaseVal.lean ====
/- What a grid point computes before its steps, and its aggregates, in real numbers. -/
module

public import proofs.«01_k».proof.Proof.PointVal
public import proofs.«01_k».proof.Proof.Blocks
public import proofs.«01_k».proof.Proof.Args

@[expose] public section

set_option maxRecDepth 16384

noncomputable section

namespace Cert.KernelIdeal.Step

open Idealize.ShloMosaic Idealize.ShloMosaic.TcCoe Idealize.SL.Sem Idealize.ShloMosaic.Tactic
open Cert.KernelIdeal Cert.KernelIdeal.Gen Cert.Rec Finset

variable (m : (ℓ : Loc nD τ sig) → Buf (Elt Ideal) ℓ) (c : Dev nD)

/-- The argument arrays in a memory. -/
def arr : Arrays where
  X := m ((c : Thread nD τ).loc main_arg0)
  M := m ((c : Thread nD τ).loc main_arg1)
  Ei := m ((c : Thread nD τ).loc main_arg2)
  Eo := m ((c : Thread nD τ).loc main_arg3)
  W := m ((c : Thread nD τ).loc main_arg4)
  U := m ((c : Thread nD τ).loc main_arg5)
  B := m ((c : Thread nD τ).loc main_arg6)
  A := m ((c : Thread nD τ).loc main_arg7)
  Ri := m ((c : Thread nD τ).loc main_arg8)
  Ro := m ((c : Thread nD τ).loc main_arg9)

/-- What they hold, as the recurrence takes it. -/
abbrev inp : In := (arr m c).toIn

variable {m c} (ok : (arr m c).Ok) (t : Fin cfg0.N)

theorem lt32 : t.val < 32 := lt_of_lt_of_eq t.isLt N_0

/-- Row `ρ` of a point's 512 is step `ρ / 32` of its sixteen, batch row `ρ % 32`. -/
def stepOf (ρ : Fin 512) : Fin 512 := ⟨16 * t.val + ρ.val / 32, by have := lt32 t; omega⟩

/-- A row's batch row. -/
def rowOf (ρ : Fin 512) : Fin 32 := ⟨ρ.val % 32, by omega⟩

include ok

theorem x_row (ρ : Fin 512) (k : Fin 128) : k0_pay6 (F := Ideal) (iblk m c 0 t) (ix2 ρ k) = (((inp m c).x (16 * t.val + ρ.val / 32) (ρ.val % 32) k.val : ℝ) : EReal) := by
  unfold k0_pay6
  pointwise
  refine (blk0 m c t _ _ k).trans ?_
  exact Arrays.x_eq ok (stepOf t ρ) (rowOf ρ) k

theorem ei_row (ρ : Fin 512) (k : Fin 128) : k0_pay19 (F := Ideal) (iblk m c 1 t) (ix2 ρ k) = (inp m c).ei (16 * t.val + ρ.val / 32) (ρ.val % 32) k.val := by
  unfold k0_pay19
  pointwise
  refine (blk1 m c t _ _ k).trans ?_
  exact Arrays.ei_eq (a := arr m c) (stepOf t ρ) (rowOf ρ) k

theorem ri_row (ρ : Fin 512) (k : Fin 128) : k0_pay18 (F := Ideal) (iblk m c 3 t) (ix2 ρ k) = (((inp m c).ri (16 * t.val + ρ.val / 32) (ρ.val % 32) k.val : ℝ) : EReal) := by
  unfold k0_pay18
  pointwise
  refine (blk3 m c t _ _ k).trans ?_
  rcases Arrays.ri_cases ok (stepOf t ρ) (rowOf ρ) k with ⟨h1, h2⟩ | ⟨h1, h2⟩
  · refine (congrArg (FloatOps.sitofp (F := Ideal) FTy.f32) h1).trans ?_
    rw [show (inp m c).ri (16 * t.val + ρ.val / 32) (ρ.val % 32) k.val = 0 from h2]
    simp [FloatOps.sitofp]
  · refine (congrArg (FloatOps.sitofp (F := Ideal) FTy.f32) h1).trans ?_
    rw [show (inp m c).ri (16 * t.val + ρ.val / 32) (ρ.val % 32) k.val = 1 from h2]
    simp [FloatOps.sitofp]

theorem ro_row (ρ : Fin 512) (k : Fin 128) : k0_pay20 (F := Ideal) (iblk m c 4 t) (ix2 ρ k) = (((inp m c).ro (16 * t.val + ρ.val / 32) (ρ.val % 32) k.val : ℝ) : EReal) := by
  unfold k0_pay20
  pointwise
  refine (blk4 m c t _ _ k).trans ?_
  rcases Arrays.ro_cases ok (stepOf t ρ) (rowOf ρ) k with ⟨h1, h2⟩ | ⟨h1, h2⟩
  · refine (congrArg (FloatOps.sitofp (F := Ideal) FTy.f32) h1).trans ?_
    rw [show (inp m c).ro (16 * t.val + ρ.val / 32) (ρ.val % 32) k.val = 0 from h2]
    simp [FloatOps.sitofp]
  · refine (congrArg (FloatOps.sitofp (F := Ideal) FTy.f32) h1).trans ?_
    rw [show (inp m c).ro (16 * t.val + ρ.val / 32) (ρ.val % 32) k.val = 1 from h2]
    simp [FloatOps.sitofp]

/-- The exponentiated scores. -/
theorem score_row (ρ : Fin 512) (r : Fin 2) : k0_pay8 (F := Ideal) (iblk m c 0 t) (iblk m c 8 t) (ix2 ρ r)
    = ((Real.exp ((inp m c).score r.val (16 * t.val + ρ.val / 32) (ρ.val % 32)) : ℝ) : EReal) := by
  unfold k0_pay8
  pointwise
  rw [sum_mul_coe (fun k => (inp m c).x (16 * t.val + ρ.val / 32) (ρ.val % 32) k) (fun k => (inp m c).A r.val k) (fun k => x_row ok t ρ k)
    (fun k => (blk8 m c t r k).trans (Arrays.A_eq ok r k))]
  rfl

theorem aexp_row (ρ : Fin 512) (k : Fin 128) :
    ((k0_pay8 (F := Ideal) (iblk m c 0 t) (iblk m c 8 t) (ix2 ρ 0) : EReal) + k0_pay18 (F := Ideal) (iblk m c 3 t) (ix2 ρ k)
      * (k0_pay8 (F := Ideal) (iblk m c 0 t) (iblk m c 8 t) (ix2 ρ 1) - k0_pay8 (F := Ideal) (iblk m c 0 t) (iblk m c 8 t) (ix2 ρ 0)))
      * k0_pay19 (F := Ideal) (iblk m c 1 t) (ix2 ρ k)
      = (inp m c).aexp (16 * t.val + ρ.val / 32) (ρ.val % 32) k.val := by
  rw [score_row ok t, score_row ok t, ri_row ok t, ei_row ok t, ← EReal.coe_sub, ← EReal.coe_mul, ← EReal.coe_add]
  unfold In.aexp
  congr 2
  have h := Arrays.ri_le ok (16 * t.val + ρ.val / 32) (ρ.val % 32) k.val
  rcases Nat.le_one_iff_eq_zero_or_eq_one.mp h with e | e
  · rw [e]; simp
  · rw [e]; simp

theorem probs_row (ρ : Fin 512) (k : Fin 128) :
    k0_pay21 (F := Ideal) (k0_pay8 (iblk m c 0 t) (iblk m c 8 t)) (k0_pay18 (iblk m c 3 t)) (k0_pay19 (iblk m c 1 t)) (ix2 ρ k)
      = (((inp m c).probs (16 * t.val + ρ.val / 32) (ρ.val % 32) k.val : ℝ) : EReal) := by
  unfold k0_pay21
  pointwise
  rw [aexp_row ok t]
  refine Arrays.div_tot ok _ _ _ ?_
  rw [Finset.sum_range]
  exact sum_congr rfl fun k _ => aexp_row ok t ρ k

theorem wt1_row (ρ : Fin 512) (k : Fin 128) :
    k0_pay22 (F := Ideal) (k0_pay8 (iblk m c 0 t) (iblk m c 8 t)) (k0_pay18 (iblk m c 3 t)) (k0_pay19 (iblk m c 1 t)) (ix2 ρ k)
      = (((inp m c).wt 1 (16 * t.val + ρ.val / 32) (ρ.val % 32) k.val : ℝ) : EReal) := by
  unfold k0_pay22
  pointwise
  rw [probs_row ok t, ri_row ok t, ← EReal.coe_mul]
  congr 1
  unfold In.wt
  have h := Arrays.ri_le ok (16 * t.val + ρ.val / 32) (ρ.val % 32) k.val
  rcases Nat.le_one_iff_eq_zero_or_eq_one.mp h with e | e
  · rw [e]; simp
  · rw [e]; simp

theorem wt0_row (ρ : Fin 512) (k : Fin 128) :
    k0_pay23 (F := Ideal) (k0_pay8 (iblk m c 0 t) (iblk m c 8 t)) (k0_pay18 (iblk m c 3 t)) (k0_pay19 (iblk m c 1 t)) (ix2 ρ k)
      = (((inp m c).wt 0 (16 * t.val + ρ.val / 32) (ρ.val % 32) k.val : ℝ) : EReal) := by
  unfold k0_pay23
  pointwise
  rw [probs_row ok t, wt1_row ok t, ← EReal.coe_sub]
  congr 1
  unfold In.wt
  have h := Arrays.ri_le ok (16 * t.val + ρ.val / 32) (ρ.val % 32) k.val
  rcases Nat.le_one_iff_eq_zero_or_eq_one.mp h with e | e
  · rw [e]; simp
  · rw [e]; simp

/-- A point's aggregates. -/
theorem agg_apply (i : Fin 16) (j : Fin 32) (r : Fin 2) :
    agg (F := Ideal) (iblk m c 0 t) (iblk m c 8 t) (iblk m c 3 t) (iblk m c 1 t) (ix3 i j r)
      = (((inp m c).att r.val (16 * t.val + i.val) j.val : ℝ) : EReal) := by
  have hi := i.isLt
  have hj := j.isLt
  unfold agg k0_pay24
  pointwise
  have hr := r.isLt
  unfold In.att
  split
  · rename_i h
    rw [sum_congr rfl fun k _ => wt0_row ok t _ k, coe_sum_fin (fun k => (inp m c).wt 0 _ _ k)]
    dsimp only
    rw [show (i.val * 32 + j.val) / 32 = i.val by omega, show (i.val * 32 + j.val) % 32 = j.val by omega, show r.val = 0 by omega]
  · rename_i h
    rw [sum_congr rfl fun k _ => wt1_row ok t _ k, coe_sum_fin (fun k => (inp m c).wt 1 _ _ k)]
    dsimp only
    rw [show (i.val * 32 + j.val) / 32 = i.val by omega, show (i.val * 32 + j.val) % 32 = j.val by omega, show r.val = 1 by omega]

theorem eo_row (ρ : ℕ) (hρ : ρ < 512) (k : Fin 128) : (iblk m c 2 t : Vec Ideal S16x32x128 .f32) (ix3 ⟨ρ / 32, by omega⟩ ⟨ρ % 32, by omega⟩ k)
    = (((inp m c).eo (16 * t.val + ρ / 32) (ρ % 32) k.val : ℝ) : EReal) :=
  (blk2 m c t _ _ k).trans (Arrays.eo_eq ok (stepOf t ⟨ρ, hρ⟩) (rowOf ⟨ρ, hρ⟩) k)

/-- The outgoing weights of the two relations, as the kernel splits them. -/
theorem ow_split (n b k : ℕ) :
    (((inp m c).eo n b k : ℝ) : EReal) - (((inp m c).eo n b k : ℝ) : EReal) * (((inp m c).ro n b k : ℝ) : EReal) = (((inp m c).ow 0 n b k : ℝ) : EReal)
    ∧ (((inp m c).eo n b k : ℝ) : EReal) * (((inp m c).ro n b k : ℝ) : EReal) = (((inp m c).ow 1 n b k : ℝ) : EReal) := by
  rw [← EReal.coe_mul, ← EReal.coe_sub]
  unfold In.ow
  have h := Arrays.ro_le ok n b k
  rcases Nat.le_one_iff_eq_zero_or_eq_one.mp h with e | e
  · rw [e]; simp
  · rw [e]; simp

/-- A point's base holds the recurrence's quantities of its sixteen steps. -/
theorem rep : Rep (bs m c t) (inp m c) (16 * t.val) where
  xw ρ o := by
    unfold bs base k0_pay7
    dsimp only
    pointwise
    unfold In.proj
    rw [Finset.sum_range]
    refine sum_congr rfl fun k _ => ?_
    rw [x_row ok t]
    refine congrArg _ ?_
    exact (blk5 m c t k o).trans (Arrays.W_eq (a := arr m c) k o)
  w0 ρ k := by
    unfold bs base k0_pay26
    dsimp only
    pointwise
    exact wt0_row ok t ρ k
  w1 ρ k := by
    unfold bs base k0_pay27
    dsimp only
    pointwise
    exact wt1_row ok t ρ k
  a0 k ρ hρ := by
    unfold bs base k0_pay25
    dsimp only
    pointwise
    rw [dif_pos hρ, ro_row ok t, eo_row ok t ρ hρ k]
    exact (ow_split ok _ _ _).1
  a1 k ρ hρ := by
    unfold bs base k0_pay25
    dsimp only
    pointwise
    rw [dif_pos hρ, ro_row ok t, eo_row ok t ρ hρ k]
    exact (ow_split ok _ _ _).2
  ae k ρ hρ := by
    unfold bs base k0_pay25
    dsimp only
    pointwise
    rw [dif_neg (by omega), dif_neg (by omega)]
    refine Eq.trans (congrArg₂ (fun i j => (iblk m c 2 t : Vec Ideal S16x32x128 .f32) (ix3 i j k)) (Fin.ext ?_) (Fin.ext ?_)) (eo_row ok t ρ hρ k)
    · show (1024 + ρ - 512 - 512) / 32 = ρ / 32
      omega
    · show (1024 + ρ - 512 - 512) % 32 = ρ % 32
      omega
  bv o := by
    unfold bs base k0_pay9
    dsimp only
    pointwise
    exact (blk7 m c t o).trans (Arrays.B_eq (a := arr m c) o)
  ub k o := by
    unfold bs base k0_pay10
    dsimp only
    pointwise
    exact (blk6 m c t k o).trans (Arrays.U_eq (a := arr m c) k o)
  fu x o := by
    unfold bs base k0_pay29
    dsimp only
    pointwise
    exact (blk9 m c t x o).trans (Arrays.U_eq (a := arr m c) _ o)
  ro := Arrays.ro_le ok

end Cert.KernelIdeal.Step

end
-- ==== Proof.KernelVal.lean ====
/- The kernel's results, in the recurrence's terms. -/
module

public import proofs.«01_k».proof.Proof.BaseVal
public import proofs.«01_k».proof.Proof.Gen.KernelIdeal.Value

@[expose] public section

set_option maxRecDepth 16384

noncomputable section

namespace Cert.KernelIdeal.Step

open Idealize.ShloMosaic Idealize.ShloMosaic.TcCoe Idealize.SL.Sem Idealize.ShloMosaic.Tactic
open Cert.KernelIdeal Cert.KernelIdeal.Gen Cert.KernelIdeal.Value Cert.Rec Finset

variable {m : (ℓ : Loc nD τ sig) → Buf (Elt Ideal) ℓ} {c : Dev nD} (ok : (arr m c).Ok)
include ok

/-- The memory before point `n` is the recurrence's before step `16 n`. -/
theorem K_is (h : ℕ) (hh : h < 2) : ∀ n ≤ 32, Is (K m c h n) (packed ((inp m c).mem (16 * n)) h)
  | 0, _ => by
    intro i j
    show k0_pay4 (F := Ideal) (ix2 i j) = _
    unfold k0_pay4
    pointwise
    rfl
  | n + 1, hn => by
    have hN : n < cfg0.N := lt_of_lt_of_eq (by omega) N_0.symm
    have e := K_succ m c h ⟨n, hN⟩
    have key := (ps_is (rep ok ⟨n, hN⟩) h hh (K_is h hh n (by omega)) 16 le_rfl).1
    intro i j
    refine (congrFun e (ix2 i j)).trans ((key i j).trans ?_)
    show (((packed ((inp m c).mem (16 * n + 16)) h i.val j.val : ℝ)) : EReal) = _
    rw [show 16 * (n + 1) = 16 * n + 16 by omega]

theorem row_apply (t : Fin cfg0.N) (i : Fin 16) (b : Fin 32) (o : Fin 128) :
    outRow (phid (bs m c t) 0 (K m c 0 t.val) i.val) (phid (bs m c t) 1 (K m c 1 t.val) i.val) (ix3 0 b o)
      = (((inp m c).out (16 * t.val + i.val) b.val o.val : ℝ) : EReal) := by
  have ht := lt32 t
  unfold outRow
  pointwise
  split
  · rename_i h
    rw [phid_is (rep ok t) 0 (by omega) (K_is ok 0 (by omega) t.val (by omega)) i.val i.isLt]
    show (((inp m c).out (16 * t.val + i.val) (16 * 0 + b.val) o.val : ℝ) : EReal) = _
    rw [show 16 * 0 + b.val = b.val by omega]
  · rename_i h
    rw [phid_is (rep ok t) 1 (by omega) (K_is ok 1 (by omega) t.val (by omega)) i.val i.isLt]
    show (((inp m c).out (16 * t.val + i.val) (16 * 1 + (b.val - 16)) o.val : ℝ) : EReal) = _
    rw [show 16 * 1 + (b.val - 16) = b.val by omega]

/-- The kernel's hidden states. -/
theorem G10_apply (n : Fin 512) (b : Fin 32) (o : Fin 128) :
    (G10 m c : Vec Ideal S512x32x128 .f32) (ix3 n b o) = (((inp m c).out n.val b.val o.val : ℝ) : EReal) := by
  have hp : pt10Of (ix3 n b o) = n.val / 16 := by
    show 1 * (n.val / 16 - 0) + 1 * (b.val / 32 - 0) + 1 * (o.val / 128 - 0) = _
    omega
  have hN : pt10Of (ix3 n b o) < cfg0.N := by rw [hp]; exact lt_of_lt_of_eq (by omega) N_0.symm
  unfold G10
  rw [dif_pos hN, ← outsAt0_sweep m c _ hN, (left m c _ hN).out]
  have e0 : (loc10Of (ix3 n b o) 0).val = n.val % 16 := rfl
  have e1 : loc10Of (ix3 n b o) 1 = b := Fin.ext (Nat.mod_eq_of_lt b.isLt)
  have e2 : loc10Of (ix3 n b o) 2 = o := Fin.ext (Nat.mod_eq_of_lt o.isLt)
  rw [e1, e2]
  refine (row_apply ok ⟨_, hN⟩ (loc10Of (ix3 n b o) 0) b o).trans ?_
  show (((inp m c).out (16 * pt10Of (ix3 n b o) + n.val % 16) b.val o.val : ℝ) : EReal) = _
  rw [hp, show 16 * (n.val / 16) + n.val % 16 = n.val by omega]

/-- The kernel's aggregates. -/
theorem G11_apply (n : Fin 512) (b : Fin 32) (r : Fin 2) :
    (G11 m c : Vec Ideal S512x32x2 .f32) (ix3 n b r) = (((inp m c).att r.val n.val b.val : ℝ) : EReal) := by
  have hp : pt11Of (ix3 n b r) = n.val / 16 := by
    show 1 * (n.val / 16 - 0) + 1 * (b.val / 32 - 0) + 1 * (r.val / 2 - 0) = _
    omega
  have hN : pt11Of (ix3 n b r) < cfg0.N := by rw [hp]; exact lt_of_lt_of_eq (by omega) N_0.symm
  unfold G11
  rw [dif_pos hN, ← outsAt0_sweep m c _ hN, (left m c _ hN).agg]
  have e : loc11Of (ix3 n b r) = ix3 (⟨n.val % 16, by omega⟩ : Fin 16) b r := by
    funext d
    match d with
    | ⟨0, _⟩ => rfl
    | ⟨1, _⟩ => exact Fin.ext (Nat.mod_eq_of_lt b.isLt)
    | ⟨2, _⟩ => exact Fin.ext (Nat.mod_eq_of_lt r.isLt)
  rw [e]
  refine (agg_apply ok ⟨_, hN⟩ _ b r).trans ?_
  show (((inp m c).att r.val (16 * pt11Of (ix3 n b r) + n.val % 16) b.val : ℝ) : EReal) = _
  rw [hp, show 16 * (n.val / 16) + n.val % 16 = n.val by omega]

/-- The kernel's final memory. -/
theorem G12_apply (k : Fin 128) (j : Fin 2048) :
    (G12 m c : Vec Ideal S128x2048 .f32) (ix2 k j) = (((inp m c).mem 512 (j.val / 64) k.val (j.val % 64) : ℝ) : EReal) := by
  have hN : 31 < cfg0.N := lt_of_lt_of_eq (by decide) N_0.symm
  rw [G12_last, ← outsAt0_sweep m c 31 hN, (left m c 31 hN).fin rfl]
  show k0_pay3 (K m c 0 32) (K m c 1 32) (ix2 k j) = _
  unfold k0_pay3
  pointwise
  split
  · rename_i h
    rw [K_is ok 0 (by omega) 32 le_rfl]
    unfold packed
    dsimp only
    rw [show 16 * 0 + j.val / 64 = j.val / 64 by omega]
  · rename_i h
    rw [K_is ok 1 (by omega) 32 le_rfl]
    unfold packed
    dsimp only
    rw [show 16 * 1 + (j.val - 1024) / 64 = j.val / 64 by omega, show (j.val - 1024) % 64 = j.val % 64 by omega]

end Cert.KernelIdeal.Step

end
-- ==== Proof.RefRow.lean ====
/- The rows one trip of the reference's loop reads and writes, and what its loop starts from. -/
module

public import proofs.«01_k».proof.Proof.Gen.ReferenceIdeal.Run
public import proofs.«01_k».proof.Proof.Args
public import Idealize.ShloMosaic.Lib.Pointwise
public import Idealize.ShloMosaic.Lib.DynamicIndex
public import Idealize.ShloMosaic.Lib.WordCmp

@[expose] public section

set_option maxRecDepth 16384

noncomputable section

namespace Cert.ReferenceIdeal.Trip

open Idealize.ShloMosaic Idealize.ShloMosaic.TcCoe Idealize.SL.Sem Idealize.ShloMosaic.Tactic
open Idealize.ShloMosaic.StableHlo
open Cert.ReferenceIdeal Cert.ReferenceIdeal.Gen Cert.ReferenceIdeal.Value Cert.Rec Finset

section rows
variable {α : Type} (ctr : S_.Idx → BitVec 32) (n : Fin 512) (hc : ctr = fun _ => BitVec.ofNat 32 n.val)
include hc

theorem start (i : S_.Idx) : (ctr i).toInt = (n.val : ℤ) := by
  rw [hc]
  exact toInt_ofNat_of_lt (by omega)

/-- The row a trip reads of an array of steps, batch rows and columns. -/
theorem row3 (x : S512x32x128.Idx → α) (b : Fin 32) (k : Fin 128) :
    shapeCast S32x128 (Host.dynamicSlice S1x32x128 x (fun j => (((![ctr, constantI S_ 32 0#32, constantI S_ 32 0#32] : Fin 3 → S_.Idx → BitVec 32)) j (Shape.Idx.first h_S_)).toInt) sliceFits_S512x32x128_S1x32x128) shapeCasts_S1x32x128_S32x128 (ix2 b k) = x (ix3 n b k) := by
  rw [Host.dynamicSlice_eq_extractStridedSlice S1x32x128 x _ ![n.val, 0, 0] _ ⟨rfl, by intro a; fin_cases a; exacts [by show n.val + 1 ≤ 512; omega, Nat.le_refl _, Nat.le_refl _]⟩
    (by intro a; fin_cases a; exacts [start ctr n hc _, rfl, rfl])]
  pointwise

/-- The row a trip reads of an array of steps and batch rows. -/
theorem row2 (x : S512x32.Idx → α) (b : Fin 32) :
    shapeCast S32 (Host.dynamicSlice S1x32 x (fun j => (((![ctr, constantI S_ 32 0#32] : Fin 2 → S_.Idx → BitVec 32)) j (Shape.Idx.first h_S_)).toInt) sliceFits_S512x32_S1x32) shapeCasts_S1x32_S32 (ix1 b) = x (ix2 n b) := by
  rw [Host.dynamicSlice_eq_extractStridedSlice S1x32 x _ ![n.val, 0] _ ⟨rfl, by intro a; fin_cases a; exacts [by show n.val + 1 ≤ 512; omega, Nat.le_refl _]⟩
    (by intro a; fin_cases a; exacts [start ctr n hc _, rfl])]
  pointwise

/-- Writing a trip's row of the outputs. -/
theorem put128 (x : S512x32x128.Idx → α) (u : S32x128.Idx → α) (i : Fin 512) (b : Fin 32) (k : Fin 128) :
    Host.dynamicUpdateSlice x (broadcastInDim S1x32x128 ![1, 2] bcast_S32x128_S1x32x128_1_2 u) (fun j => (((![ctr, constantI S_ 32 0#32, constantI S_ 32 0#32] : Fin 3 → S_.Idx → BitVec 32)) j (Shape.Idx.first h_S_)).toInt) updateFits_S512x32x128_S1x32x128 (ix3 i b k)
      = if i = n then u (ix2 b k) else x (ix3 i b k) := by
  rw [WordCmp.dynamicUpdateSlice_eq_update (u := S1x32x128) x _ _ _ ![n.val, 0, 0] ⟨rfl, by intro a; fin_cases a; exacts [by show n.val + 1 ≤ 512; omega, Nat.le_refl _, Nat.le_refl _]⟩
    (by intro a; fin_cases a; exacts [start ctr n hc _, rfl, rfl])]
  pointwise
  by_cases h : i = n
  · rw [if_pos h, dif_pos (by rw [h]; omega)]
  · rw [if_neg h, dif_neg (fun h' => h (Fin.ext (by omega)))]

/-- Writing a trip's row of the aggregates. -/
theorem put2 (x : S512x32x2.Idx → α) (u : S32x2.Idx → α) (i : Fin 512) (b : Fin 32) (k : Fin 2) :
    Host.dynamicUpdateSlice x (broadcastInDim S1x32x2 ![1, 2] bcast_S32x2_S1x32x2_1_2 u) (fun j => (((![ctr, constantI S_ 32 0#32, constantI S_ 32 0#32] : Fin 3 → S_.Idx → BitVec 32)) j (Shape.Idx.first h_S_)).toInt) updateFits_S512x32x2_S1x32x2 (ix3 i b k)
      = if i = n then u (ix2 b k) else x (ix3 i b k) := by
  rw [WordCmp.dynamicUpdateSlice_eq_update (u := S1x32x2) x _ _ _ ![n.val, 0, 0] ⟨rfl, by intro a; fin_cases a; exacts [by show n.val + 1 ≤ 512; omega, Nat.le_refl _, Nat.le_refl _]⟩
    (by intro a; fin_cases a; exacts [start ctr n hc _, rfl, rfl])]
  pointwise
  by_cases h : i = n
  · rw [if_pos h, dif_pos (by rw [h]; omega)]
  · rw [if_neg h, dif_neg (fun h' => h (Fin.ext (by omega)))]

end rows

section entry
variable (m : (ℓ : Loc nD τ sig) → Buf (Elt Ideal) ℓ) (c : Dev nD)

/-- The argument arrays in a memory. -/
def arr : Arrays where
  X := m ((c : Thread nD τ).loc main_arg0)
  M := m ((c : Thread nD τ).loc main_arg1)
  Ei := m ((c : Thread nD τ).loc main_arg2)
  Eo := m ((c : Thread nD τ).loc main_arg3)
  W := m ((c : Thread nD τ).loc main_arg4)
  U := m ((c : Thread nD τ).loc main_arg5)
  B := m ((c : Thread nD τ).loc main_arg6)
  A := m ((c : Thread nD τ).loc main_arg7)
  Ri := m ((c : Thread nD τ).loc main_arg8)
  Ro := m ((c : Thread nD τ).loc main_arg9)

theorem entry0 (n : Fin 512) (b : Fin 32) (k : Fin 128) : (entryContents preI m c (Proc.devRef .tc main_v10_0) : Vec Ideal S512x32x128 .f32) (ix3 n b k) = (arr m c).X (ix3 b n k) := by
  simp only [entryContents, afterL_cons, afterL_nil]
  after_reads_simp
  dsimp only [id]
  pointwise
  rfl

theorem entry2 (n : Fin 512) (b : Fin 32) (k : Fin 128) : (entryContents preI m c (Proc.devRef .tc main_v10_2) : Vec Ideal S512x32x128 .f32) (ix3 n b k) = (arr m c).Ei (ix3 b n k) := by
  simp only [entryContents, afterL_cons, afterL_nil]
  after_reads_simp
  dsimp only [id]
  pointwise
  rfl

theorem entry3 (n : Fin 512) (b : Fin 32) (k : Fin 128) : (entryContents preI m c (Proc.devRef .tc main_v10_3) : Vec Ideal S512x32x128 .f32) (ix3 n b k) = (arr m c).Eo (ix3 b n k) := by
  simp only [entryContents, afterL_cons, afterL_nil]
  after_reads_simp
  dsimp only [id]
  pointwise
  rfl

theorem entry4 (n : Fin 512) (b : Fin 32) (k : Fin 128) : (entryContents preI m c (Proc.devRef .tc main_v10_4) : Vec Ideal S512x32x128 .i32) (ix3 n b k) = (arr m c).Ri (ix3 b n k) := by
  simp only [entryContents, afterL_cons, afterL_nil]
  after_reads_simp
  dsimp only [id]
  pointwise
  rfl

theorem entry5 (n : Fin 512) (b : Fin 32) (k : Fin 128) : (entryContents preI m c (Proc.devRef .tc main_v10_5) : Vec Ideal S512x32x128 .i32) (ix3 n b k) = (arr m c).Ro (ix3 b n k) := by
  simp only [entryContents, afterL_cons, afterL_nil]
  after_reads_simp
  dsimp only [id]
  pointwise
  rfl

theorem entry1 (n : Fin 512) (b : Fin 32) : (entryContents preI m c (Proc.devRef .tc main_v10_1) : Vec Ideal S512x32 .f32) (ix2 n b) = (arr m c).M (ix2 b n) := by
  simp only [entryContents, afterL_cons, afterL_nil]
  after_reads_simp
  dsimp only [id]
  pointwise
  rfl

theorem entry6 : entryContents preI m c (Proc.devRef .tc main_v10_6) = (arr m c).A := by
  simp only [entryContents, afterL_cons, afterL_nil]
  after_reads_simp
  rfl

theorem entry7 : entryContents preI m c (Proc.devRef .tc main_v10_7) = (arr m c).W := by
  simp only [entryContents, afterL_cons, afterL_nil]
  after_reads_simp
  rfl

theorem entry8 : entryContents preI m c (Proc.devRef .tc main_v10_8) = (arr m c).U := by
  simp only [entryContents, afterL_cons, afterL_nil]
  after_reads_simp
  rfl

theorem entry9 : entryContents preI m c (Proc.devRef .tc main_v10_9) = (arr m c).B := by
  simp only [entryContents, afterL_cons, afterL_nil]
  after_reads_simp
  rfl

theorem entry11 (b : Fin 32) (k : Fin 128) (d : Fin 64) : (entryContents preI m c (Proc.devRef .tc main_v10_11) : Vec Ideal S32x128x64 .f32) (ix3 b k d) = (0 : EReal) := by
  simp only [entryContents, afterL_cons, afterL_nil]
  after_reads_simp
  dsimp only [id]
  pointwise
end entry

end Cert.ReferenceIdeal.Trip

end
-- ==== Proof.RefVal.lean ====
/- One trip of the reference's loop, in real numbers. -/
module

public import proofs.«01_k».proof.Proof.RefRow

@[expose] public section

set_option maxRecDepth 16384

noncomputable section

namespace Cert.ReferenceIdeal.Trip

open Idealize.ShloMosaic Idealize.ShloMosaic.TcCoe Idealize.SL.Sem Idealize.ShloMosaic.Tactic
open Idealize.ShloMosaic.StableHlo
open Cert.ReferenceIdeal Cert.ReferenceIdeal.Gen Cert.ReferenceIdeal.Value Cert.Rec Finset

/-- A buffer of three axes, of two, of one. -/
abbrev A3 (a b c : ℕ) : Type := FVec Ideal ⟨3, ![a, b, c]⟩ .f32
abbrev A2 (a b : ℕ) : Type := FVec Ideal ⟨2, ![a, b]⟩ .f32

/-- The arguments as the loop carries them. -/
structure Carried (a : Arrays) (V : Valuation τ sig (Elt Ideal)) : Prop where
  X : ∀ (n : Fin 512) (b : Fin 32) (k : Fin 128), (V (Proc.devRef .tc main_v10_0) : Vec Ideal S512x32x128 .f32) (ix3 n b k) = a.X (ix3 b n k)
  M : ∀ (n : Fin 512) (b : Fin 32), (V (Proc.devRef .tc main_v10_1) : Vec Ideal S512x32 .f32) (ix2 n b) = a.M (ix2 b n)
  Ei : ∀ (n : Fin 512) (b : Fin 32) (k : Fin 128), (V (Proc.devRef .tc main_v10_2) : Vec Ideal S512x32x128 .f32) (ix3 n b k) = a.Ei (ix3 b n k)
  Eo : ∀ (n : Fin 512) (b : Fin 32) (k : Fin 128), (V (Proc.devRef .tc main_v10_3) : Vec Ideal S512x32x128 .f32) (ix3 n b k) = a.Eo (ix3 b n k)
  Ri : ∀ (n : Fin 512) (b : Fin 32) (k : Fin 128), (V (Proc.devRef .tc main_v10_4) : Vec Ideal S512x32x128 .i32) (ix3 n b k) = a.Ri (ix3 b n k)
  Ro : ∀ (n : Fin 512) (b : Fin 32) (k : Fin 128), (V (Proc.devRef .tc main_v10_5) : Vec Ideal S512x32x128 .i32) (ix3 n b k) = a.Ro (ix3 b n k)
  A : V (Proc.devRef .tc main_v10_6) = a.A
  W : V (Proc.devRef .tc main_v10_7) = a.W
  U : V (Proc.devRef .tc main_v10_8) = a.U
  B : V (Proc.devRef .tc main_v10_9) = a.B

/-- A buffer that holds the memory `M`. -/
def IsMem (v : A3 32 128 64) (M : ℕ → ℕ → ℕ → ℝ) : Prop := ∀ (b : Fin 32) (c : Fin 128) (d : Fin 64), v (ix3 b c d) = ((M b.val c.val d.val : ℝ) : EReal)

theorem word_eq (p q : ℕ) (hp : p < 2 ^ 32) (hq : q < 2 ^ 32) :
    (FloatOps.uitofp (F := Ideal) FTy.f32 (IntOp.cmpi CmpIPredicate.eq (BitVec.ofNat 32 p) (BitVec.ofNat 32 q)) : EReal)
      = ((if p = q then 1 else 0 : ℝ) : EReal) := by
  by_cases h : p = q
  · subst h
    simp [IntOp.cmpi, FloatOps.uitofp]
  · rw [if_neg h]
    have h' : ¬ BitVec.ofNat 32 p = BitVec.ofNat 32 q := fun e => h (by
      have := congrArg BitVec.toNat e
      simp only [BitVec.toNat_ofNat, Nat.mod_eq_of_lt hp, Nat.mod_eq_of_lt hq] at this
      exact this)
    have h2 : IntOp.cmpi CmpIPredicate.eq (BitVec.ofNat 32 p) (BitVec.ofNat 32 q) = 0#1 := by
      show BitVec.ofBool (BitVec.ofNat 32 p == BitVec.ofNat 32 q) = 0#1
      rw [beq_eq_false_iff_ne.mpr h']
      rfl
    rw [h2]
    simp [FloatOps.uitofp]

theorem sum_mul_coe {n : ℕ} {L R : Fin n → EReal} (l r : ℕ → ℝ) (hl : ∀ k, L k = ((l k.val : ℝ) : EReal))
    (hr : ∀ k, R k = ((r k.val : ℝ) : EReal)) : (∑ k, L k * R k) = ((∑ k ∈ range n, l k * r k : ℝ) : EReal) := by
  rw [← coe_sum_fin]
  exact sum_congr rfl fun k _ => by rw [hl, hr, EReal.coe_mul]

theorem sum_to_range {n : ℕ} {L : Fin n → EReal} (f : ℕ → EReal) (h : ∀ k, L k = f k.val) : (∑ k, L k) = ∑ k ∈ range n, f k := by
  rw [Finset.sum_range]
  exact sum_congr rfl fun k _ => h k

theorem mix_coe (e p q h0 h1 m : ℝ) : (1 : EReal) * ((e : EReal) * ((p : EReal) * (h0 : EReal) + (q : EReal) * (h1 : EReal)) + (1 - (e : EReal)) * (m : EReal)) + (1 - 1) * (m : EReal)
    = ((e * (p * h0 + q * h1) + (1 - e) * m : ℝ) : EReal) := by
  rw [show (1 - 1 : EReal) = 0 by rw [← EReal.coe_one, ← EReal.coe_sub, sub_self, EReal.coe_zero], zero_mul, add_zero, one_mul]
  simp only [EReal.coe_add, EReal.coe_mul, EReal.coe_sub, EReal.coe_one]

variable {a : Arrays} (ok : a.Ok) {V : Valuation τ sig (Elt Ideal)} (hV : Carried a V) (n : Fin 512)
  (hc : (V (Proc.devRef .tc main_v10_10) : S_.Idx → BitVec 32) = fun _ => BitVec.ofNat 32 n.val)
include ok hV hc

theorem x_row (b : Fin 32) (k : Fin 128) : (res_main_while0b_v13 V : A2 32 128) (ix2 b k) = ((a.toIn.x n.val b.val k.val : ℝ) : EReal) := by
  unfold res_main_while0b_v13
  exact (row3 _ n hc _ b k).trans ((hV.X n b k).trans (Arrays.x_eq ok n b k))

theorem m_row (b : Fin 32) : (res_main_while0b_v14 V : FVec Ideal S32 .f32) (ix1 b) = (1 : EReal) := by
  unfold res_main_while0b_v14
  exact (row2 _ n hc _ b).trans ((hV.M n b).trans (ok.M _))

theorem eo_row (b : Fin 32) (k : Fin 128) : (res_main_while0b_v16 V : A2 32 128) (ix2 b k) = ((a.toIn.eo n.val b.val k.val : ℝ) : EReal) := by
  unfold res_main_while0b_v16
  exact (row3 _ n hc _ b k).trans ((hV.Eo n b k).trans (Arrays.eo_eq ok n b k))

theorem hot_row (b : Fin 32) (k : Fin 128) (r : Fin 2) : (res_main_while0b_v19 V : A3 32 128 2) (ix3 b k r) = ((if a.toIn.ri n.val b.val k.val = r.val then 1 else 0 : ℝ) : EReal) := by
  unfold res_main_while0b_v19
  have h := (row3 _ n hc (V (Proc.devRef .tc main_v10_4)) b k).trans (hV.Ri n b k)
  generalize shapeCast S32x128 (Host.dynamicSlice S1x32x128 (V (Proc.devRef .tc main_v10_4)) (fun k => (((![V (Proc.devRef .tc main_v10_10), constantI S_ 32 0#32, constantI S_ 32 0#32] : Fin 3 → (⟨S_, .i32⟩ : BufTy).Contents (Elt Ideal))) k (Shape.Idx.first h_S_)).toInt) sliceFits_S512x32x128_S1x32x128) shapeCasts_S1x32x128_S32x128 = w at h ⊢
  pointwise
  rw [h]
  rcases Arrays.ri_cases ok n b k with ⟨h1, h2⟩ | ⟨h1, h2⟩ <;> rw [h1, h2] <;> exact word_eq _ _ (by omega) (by omega)

theorem score_row (b : Fin 32) (k : Fin 128) :
    (res_main_while0b_v23 V : A2 32 128) (ix2 b k) = a.toIn.aexp n.val b.val k.val := by
  unfold res_main_while0b_v23
  have h := (row3 _ n hc (V (Proc.devRef .tc main_v10_2)) b k).trans ((hV.Ei n b k).trans (Arrays.ei_eq (a := a) n b k))
  generalize shapeCast S32x128 (Host.dynamicSlice S1x32x128 (V (Proc.devRef .tc main_v10_2)) (fun k => (((![V (Proc.devRef .tc main_v10_10), constantI S_ 32 0#32, constantI S_ 32 0#32] : Fin 3 → (⟨S_, .i32⟩ : BufTy).Contents (Elt Ideal))) k (Shape.Idx.first h_S_)).toInt) sliceFits_S512x32x128_S1x32x128) shapeCasts_S1x32x128_S32x128 = w at h ⊢
  pointwise
  rw [h]
  have e : ∀ x : Fin 128, (∑ r : Fin 2, HMul.hMul (α := EReal) (β := EReal) (γ := EReal) ((res_main_while0b_v19 V : A3 32 128 2) (ix3 b k r)) ((V (Proc.devRef .tc main_v10_6) : A2 2 128) (ix2 r x)))
      = ((a.toIn.A (a.toIn.ri n.val b.val k.val) x.val : ℝ) : EReal) := by
    intro x
    rw [Fin.sum_univ_two, hot_row ok hV n hc, hot_row ok hV n hc, hV.A, Arrays.A_eq ok, Arrays.A_eq ok]
    rcases Nat.le_one_iff_eq_zero_or_eq_one.mp (Arrays.ri_le ok n.val b.val k.val) with e | e <;> rw [e] <;> simp
  have e2 := sum_mul_coe (fun x => a.toIn.A (a.toIn.ri n.val b.val k.val) x) (fun x => a.toIn.x n.val b.val x) e (x_row ok hV n hc b)
  refine (congrArg (fun s => Ideal.exp s * a.toIn.ei n.val b.val k.val) e2).trans ?_
  rw [Ideal.exp_coe]
  unfold In.aexp In.score
  simp only [mul_comm]

theorem probs_row (b : Fin 32) (k : Fin 128) :
    (res_main_while0b_v29 V : A2 32 128) (ix2 b k) = ((a.toIn.probs n.val b.val k.val : ℝ) : EReal) := by
  unfold res_main_while0b_v29
  pointwise
  simp only [score_row ok hV n hc]
  exact Arrays.div_tot ok _ _ _ (sum_to_range (fun x => a.toIn.aexp n.val b.val x) fun _ => rfl)

variable {M : ℕ → ℕ → ℕ → ℝ} (hM : IsMem (V (Proc.devRef .tc main_v10_11)) M)
include hM

theorem hin_row (b : Fin 32) (o : Fin 128) :
    (res_main_while0b_v35 V : A2 32 128) (ix2 b o) = ((a.toIn.hin M n.val b.val o.val : ℝ) : EReal) := by
  unfold res_main_while0b_v35
  pointwise
  refine (sum_mul_coe (fun c => a.toIn.wt (o.val / 64) n.val b.val c) (fun c => M b.val c (o.val % 64)) (fun x => ?_) (fun x => hM b x _)).trans rfl
  rw [hot_row ok hV n hc, probs_row ok hV n hc, ← EReal.coe_mul]
  unfold In.wt
  split <;> simp

omit hM in
theorem proj_row (b : Fin 32) (o : Fin 128) :
    (res_main_while0b_v36 V : A2 32 128) (ix2 b o) = a.toIn.proj n.val b.val o.val := by
  unfold res_main_while0b_v36
  pointwise
  refine (sum_to_range (fun k => ((a.toIn.x n.val b.val k : ℝ) : EReal) * a.toIn.W k o.val) fun x => ?_).trans rfl
  rw [x_row ok hV n hc, hV.W, Arrays.W_eq (a := a)]

theorem hu_row (b : Fin 32) (o : Fin 128) :
    (res_main_while0b_v37 V : A2 32 128) (ix2 b o) = ∑ k ∈ range 128, ((a.toIn.hin M n.val b.val k : ℝ) : EReal) * a.toIn.U k o.val := by
  unfold res_main_while0b_v37
  pointwise
  refine sum_to_range (fun k => ((a.toIn.hin M n.val b.val k : ℝ) : EReal) * a.toIn.U k o.val) fun x => ?_
  rw [hin_row ok hV n hc hM, hV.U, Arrays.U_eq (a := a)]

theorem gate_row (b : Fin 32) (o : Fin 128) :
    (res_main_while0b_v57 V : A2 32 128) (ix2 b o) = ((a.toIn.gate n.val b.val (a.toIn.hin M n.val b.val) o.val : ℝ) : EReal) := by
  unfold res_main_while0b_v57
  pointwise
  rw [proj_row ok hV n hc, hu_row ok hV n hc hM, hV.B, Arrays.B_eq (a := a)]
  exact logistic_real _

theorem hnew_row (b : Fin 32) (o : Fin 128) :
    (res_main_while0b_v72 V : A2 32 128) (ix2 b o) = ((a.toIn.hnew n.val b.val (a.toIn.hin M n.val b.val) o.val : ℝ) : EReal) := by
  have hg := gate_row ok hV n hc hM
  unfold res_main_while0b_v57 at hg
  have hcand : ∀ o : Fin 128, Ideal.tanh (a.toIn.proj n.val b.val o.val
      + (∑ k ∈ range 128, ((a.toIn.gate n.val b.val (a.toIn.hin M n.val b.val) k * a.toIn.hin M n.val b.val k : ℝ) : EReal) * a.toIn.U k o.val)
      + a.toIn.B o.val) = ((a.toIn.cand n.val b.val (a.toIn.hin M n.val b.val) o.val : ℝ) : EReal) := fun o => tanh_real _
  unfold res_main_while0b_v72
  generalize Host.divf (F := Ideal) _ _ = g at hg ⊢
  pointwise
  rw [m_row ok hV n hc, one_mul, gate_row ok hV n hc hM, hin_row ok hV n hc hM, proj_row ok hV n hc, hV.B, Arrays.B_eq (a := a)]
  have e := sum_to_range (L := fun x : Fin 128 => (g : A2 32 128) (ix2 b x) * (res_main_while0b_v35 V : A2 32 128) (ix2 b x) * (V (Proc.devRef .tc main_v10_8) : A2 128 128) (ix2 x o))
    (fun k => ((a.toIn.gate n.val b.val (a.toIn.hin M n.val b.val) k * a.toIn.hin M n.val b.val k : ℝ) : EReal) * a.toIn.U k o.val) (fun x => by
      rw [hg, hin_row ok hV n hc hM, hV.U, Arrays.U_eq (a := a), EReal.coe_mul])
  have e2 := (congrArg (fun s => Ideal.tanh (a.toIn.proj n.val b.val o.val + s + a.toIn.B o.val)) e).trans (hcand o)
  rw [e2]
  unfold In.hnew
  rw [EReal.coe_add, EReal.coe_mul, EReal.coe_mul, EReal.coe_sub]
  rfl

theorem mem_next : IsMem (step_main_v10_11 V) (a.toIn.next M n.val) := by
  intro b c d
  unfold step_main_v10_11
  have h := (row3 _ n hc (V (Proc.devRef .tc main_v10_5)) b c).trans (hV.Ro n b c)
  dsimp only [id]
  generalize shapeCast S32x128 (Host.dynamicSlice S1x32x128 (V (Proc.devRef .tc main_v10_5)) (fun k => (((![V (Proc.devRef .tc main_v10_10), constantI S_ 32 0#32, constantI S_ 32 0#32] : Fin 3 → (⟨S_, .i32⟩ : BufTy).Contents (Elt Ideal))) k (Shape.Idx.first h_S_)).toInt) sliceFits_S512x32x128_S1x32x128) shapeCasts_S1x32x128_S32x128 = w at h ⊢
  pointwise
  rw [h, m_row ok hV n hc, eo_row ok hV n hc, hM]
  simp only [hnew_row ok hV n hc hM]
  rw [Fin.sum_univ_two]
  unfold In.next
  rcases Arrays.ro_cases ok n b c with ⟨h1, h2⟩ | ⟨h1, h2⟩
  · rw [h1, h2, show FloatOps.uitofp (F := Ideal) FTy.f32 (IntOp.cmpi CmpIPredicate.eq 0#32 (BitVec.ofNat 32 (0 : Fin 2).val)) = ((1 : ℝ) : EReal) from (word_eq 0 0 (by omega) (by omega)).trans (by simp),
      show FloatOps.uitofp (F := Ideal) FTy.f32 (IntOp.cmpi CmpIPredicate.eq 0#32 (BitVec.ofNat 32 (1 : Fin 2).val)) = ((0 : ℝ) : EReal) from (word_eq 0 1 (by omega) (by omega)).trans (by simp)]
    refine (mix_coe _ _ _ _ _ _).trans (congrArg Real.toEReal ?_)
    rw [one_mul, zero_mul, add_zero]
    rfl
  · rw [h1, h2, show FloatOps.uitofp (F := Ideal) FTy.f32 (IntOp.cmpi CmpIPredicate.eq 1#32 (BitVec.ofNat 32 (0 : Fin 2).val)) = ((0 : ℝ) : EReal) from (word_eq 1 0 (by omega) (by omega)).trans (by simp),
      show FloatOps.uitofp (F := Ideal) FTy.f32 (IntOp.cmpi CmpIPredicate.eq 1#32 (BitVec.ofNat 32 (1 : Fin 2).val)) = ((1 : ℝ) : EReal) from (word_eq 1 1 (by omega) (by omega)).trans (by simp)]
    refine (mix_coe _ _ _ _ _ _).trans (congrArg Real.toEReal ?_)
    rw [zero_mul, one_mul, zero_add]
    rfl

omit hM in
theorem agg_row (b : Fin 32) (r : Fin 2) :
    (res_main_while0b_v96 V : A2 32 2) (ix2 b r) = ((a.toIn.att r.val n.val b.val : ℝ) : EReal) := by
  unfold res_main_while0b_v96
  pointwise
  rw [m_row ok hV n hc, one_mul]
  refine (sum_to_range (fun c => ((a.toIn.wt r.val n.val b.val c : ℝ) : EReal)) fun x => ?_).trans (coe_sum_range _ _)
  rw [hot_row ok hV n hc, probs_row ok hV n hc, ← EReal.coe_mul]
  unfold In.wt
  split <;> simp

end Cert.ReferenceIdeal.Trip

end
-- ==== Proof.RefLoop.lean ====
/- What the reference's loop leaves: the recurrence's states, aggregates and memory. -/
module

public import proofs.«01_k».proof.Proof.RefVal

@[expose] public section

set_option maxRecDepth 16384

noncomputable section

namespace Cert.ReferenceIdeal.Trip

open Idealize.ShloMosaic Idealize.ShloMosaic.TcCoe Idealize.SL.Sem Idealize.ShloMosaic.Tactic
open Idealize.ShloMosaic.StableHlo
open Cert.ReferenceIdeal Cert.ReferenceIdeal.Gen Cert.ReferenceIdeal.Value Cert.Rec Finset

/-- The loop's buffers before trip `n`. -/
structure Before (a : Arrays) (n : ℕ) (V : Valuation τ sig (Elt Ideal)) : Prop where
  args : Carried a V
  ctr : (V (Proc.devRef .tc main_v10_10) : S_.Idx → BitVec 32) = fun _ => BitVec.ofNat 32 n
  mem : IsMem (V (Proc.devRef .tc main_v10_11)) (a.toIn.mem n)
  out : ∀ (i : Fin 512) (b : Fin 32) (o : Fin 128), i.val < n → (V (Proc.devRef .tc main_v10_13) : A3 512 32 128) (ix3 i b o) = ((a.toIn.out i.val b.val o.val : ℝ) : EReal)
  agg : ∀ (i : Fin 512) (b : Fin 32) (r : Fin 2), i.val < n → (V (Proc.devRef .tc main_v10_14) : A3 512 32 2) (ix3 i b r) = ((a.toIn.att r.val i.val b.val : ℝ) : EReal)

variable {a : Arrays} (ok : a.Ok)
include ok

theorem Before.next {n : ℕ} (hn : n < 512) {V : Valuation τ sig (Elt Ideal)} (h : Before a n V) : Before a (n + 1) (STEP V) where
  args :=
    { X := by rw [STEP_main_v10_0]; exact h.args.X
      M := by rw [STEP_main_v10_1]; exact h.args.M
      Ei := by rw [STEP_main_v10_2]; exact h.args.Ei
      Eo := by rw [STEP_main_v10_3]; exact h.args.Eo
      Ri := by rw [STEP_main_v10_4]; exact h.args.Ri
      Ro := by rw [STEP_main_v10_5]; exact h.args.Ro
      A := by rw [STEP_main_v10_6]; exact h.args.A
      W := by rw [STEP_main_v10_7]; exact h.args.W
      U := by rw [STEP_main_v10_8]; exact h.args.U
      B := by rw [STEP_main_v10_9]; exact h.args.B }
  ctr := by
    rw [STEP_main_v10_10]
    unfold step_main_v10_10
    rw [h.ctr]
    funext i
    show BitVec.ofNat 32 n + 1#32 = _
    exact BitVec.ofNat_add_ofNat n 1
  mem := by
    rw [STEP_main_v10_11]
    exact mem_next ok h.args ⟨n, hn⟩ h.ctr h.mem
  out := by
    intro i b o hi
    rw [STEP_main_v10_13]
    refine (put128 _ ⟨n, hn⟩ h.ctr _ _ i b o).trans ?_
    by_cases e : i = ⟨n, hn⟩
    · rw [if_pos e, e]
      exact hnew_row ok h.args ⟨n, hn⟩ h.ctr h.mem b o
    · rw [if_neg e]
      exact h.out i b o (by have : i.val ≠ n := fun h => e (Fin.ext h); omega)
  agg := by
    intro i b r hi
    rw [STEP_main_v10_14]
    refine (put2 _ ⟨n, hn⟩ h.ctr _ _ i b r).trans ?_
    by_cases e : i = ⟨n, hn⟩
    · rw [if_pos e, e]
      exact agg_row ok h.args ⟨n, hn⟩ h.ctr b r
    · rw [if_neg e]
      exact h.agg i b r (by have : i.val ≠ n := fun h => e (Fin.ext h); omega)

omit ok

variable (m : (ℓ : Loc nD τ sig) → Buf (Elt Ideal) ℓ) (c : Dev nD)

theorem first : Before (arr m c) 0 (entryContents preI m c) where
  args :=
    { X := entry0 m c
      M := entry1 m c
      Ei := entry2 m c
      Eo := entry3 m c
      Ri := entry4 m c
      Ro := entry5 m c
      A := entry6 m c
      W := entry7 m c
      U := entry8 m c
      B := entry9 m c }
  ctr := ctr_entry m c
  mem := fun b k d => (entry11 m c b k d).trans EReal.coe_zero.symm
  out := fun _ _ _ h => absurd h (Nat.not_lt_zero _)
  agg := fun _ _ _ h => absurd h (Nat.not_lt_zero _)

variable {m c} (okm : (arr m c).Ok)
include okm

theorem before : ∀ n ≤ 512, Before (arr m c) n (STEP^[n] (entryContents preI m c))
  | 0, _ => first m c
  | n + 1, h => by
    rw [Function.iterate_succ_apply']
    exact (before n (by omega)).next okm (by omega)

theorem outs_apply (n : Fin 512) (b : Fin 32) (o : Fin 128) :
    ((STEP^[512] (entryContents preI m c)) (Proc.devRef .tc main_v10_13) : A3 512 32 128) (ix3 n b o) = (((arr m c).toIn.out n.val b.val o.val : ℝ) : EReal) :=
  (before okm 512 (le_refl _)).out n b o n.isLt

theorem aggs_apply (n : Fin 512) (b : Fin 32) (r : Fin 2) :
    ((STEP^[512] (entryContents preI m c)) (Proc.devRef .tc main_v10_14) : A3 512 32 2) (ix3 n b r) = (((arr m c).toIn.att r.val n.val b.val : ℝ) : EReal) :=
  (before okm 512 (le_refl _)).agg n b r n.isLt

theorem memf_apply (k : Fin 128) (j : Fin 2048) :
    (out_main_v12 (STEP^[512] (entryContents preI m c)) : A2 128 2048) (ix2 k j) = (((arr m c).toIn.mem 512 (j.val / 64) k.val (j.val % 64) : ℝ) : EReal) := by
  have h := (before okm 512 (le_refl _)).mem
  unfold out_main_v12
  generalize (STEP^[512] (entryContents preI m c)) (Proc.devRef .tc main_v10_11) = v at h ⊢
  pointwise
  exact h ⟨j.val / 64, by omega⟩ k ⟨j.val % 64, by omega⟩

end Cert.ReferenceIdeal.Trip

end
-- ==== Proof.PreVal.lean ====
/- What the precondition says of the argument arrays. -/
module

public import proofs.«01_k».proof.Defs
public import proofs.«01_k».proof.Proof.Args
public import Idealize.ShloMosaic.Lib.ReduceAll
public import Idealize.ShloMosaic.Lib.Pointwise

@[expose] public section

set_option maxRecDepth 16384

noncomputable section

namespace Cert.Rec

open Idealize.ShloMosaic Idealize.ShloMosaic.Tactic
open Cert.Pre_inputs_ok

instance : Subsingleton S_.Idx := ⟨fun _ _ => funext fun d => Fin.elim0 d⟩

theorem and_one (p q : BitVec 1) : IntOp.andi p q = 1#1 ↔ p = 1#1 ∧ q = 1#1 := by revert p q; decide

theorem or_one (p q : BitVec 1) : IntOp.ori p q = 1#1 ↔ p = 1#1 ∨ q = 1#1 := by revert p q; decide

theorem bit_one (p : Prop) [Decidable p] (h : BitVec.ofBool (decide p) = 1#1) : p := by
  by_cases hp : p
  · exact hp
  · rw [decide_eq_false hp] at h
    exact absurd h (by decide)

/-- A number that less itself is zero is a real. -/
theorem real_of_sub {x : EReal} (h : x - x = 0) : x = ((EReal.toReal x : ℝ) : EReal) := by
  induction x using EReal.rec with
  | bot => exact absurd h (by simp)
  | coe r => rfl
  | top => exact absurd h (by simp)

theorem eq_of_cmp {x y : EReal} (h : Ideal.cmp .oeq x y = 1#1) : x = y := bit_one _ h

theorem le_of_cmp {x y : EReal} (h : Ideal.cmp .oge x y = 1#1) : y ≤ x := bit_one _ h

theorem word_of_or {x : BitVec 32} (h : IntOp.ori (IntOp.cmpi .eq x 0#32) (IntOp.cmpi .eq x 1#32) = 1#1) : x = 0#32 ∨ x = 1#32 := by
  refine ((or_one _ _).mp h).imp (fun e => ?_) (fun e => ?_)
  · by_contra hx
    rw [show IntOp.cmpi .eq x 0#32 = BitVec.ofBool (x == 0#32) from rfl, beq_eq_false_iff_ne.mpr hx] at e
    exact absurd e (by decide)
  · by_contra hx
    rw [show IntOp.cmpi .eq x 1#32 = BitVec.ofBool (x == 1#32) from rfl, beq_eq_false_iff_ne.mpr hx] at e
    exact absurd e (by decide)

/-- An array that passes the test of finiteness holds reals. -/
theorem real_all {s : Shape} {axes : List (Fin s.rank)} {x : FVec Ideal s .f32} {hb : S_.BroadcastsInDim s (![] : Fin 0 → Fin s.rank)} {hr : s.ReducesTo axes S_}
    {hu : 0 < S_.numel} {j : S_.Idx}
    (h : Host.reduce IntOp.andi (cmpf .oeq (subf x x) (broadcastInDim s ![] hb (constant S_ .f32 0#32))) (constantI S_ 1 1#1) hr hu j = 1#1) (i : s.Idx) :
    x i = ((EReal.toReal (x i) : ℝ) : EReal) := by
  have e := Host.reduce_andi_all _ _ _ _ _ h i
  have e' : Ideal.cmp .oeq (x i - x i : EReal) (Ideal.ofBits .f32 0#32) = 1#1 := e
  rw [Ideal.ofBits_zero_f32] at e'
  exact real_of_sub (eq_of_cmp e')

theorem ok_of_pre [Facts] (a : Arrays)
    (h : Cert.Pre_inputs_ok.fn (F := Ideal) a.X a.M a.Ei a.Eo a.W a.U a.B a.A a.Ri a.Ro = fun _ => 1#1) : a.Ok := by
  have h0 := congrFun h (Shape.Idx.first Facts.h_S_)
  simp only [fn, fn_part1, fn_part2, andi, and_one] at h0
  obtain ⟨⟨⟨⟨⟨⟨hM, hRi⟩, hRo⟩, hE⟩, hEo⟩, hX⟩, hA⟩ := h0
  exact {
    X := real_all hX
    M := fun i => eq_of_cmp (Ideal.ofBits_one_f32 ▸ Host.reduce_andi_all _ _ _ _ _ hM i)
    Ei := fun i => le_of_cmp (Ideal.ofBits_zero_f32 ▸ Host.reduce_andi_all _ _ _ _ _ hE i)
    Eo := real_all hEo
    A := real_all hA
    Ri := fun i => word_of_or (Host.reduce_andi_all _ _ _ _ _ hRi i)
    Ro := fun i => word_of_or (Host.reduce_andi_all _ _ _ _ _ hRo i) }

end Cert.Rec

end
-- ==== Proof.Equal.lean ====
/- The kernel's results and the reference's are the same arrays. -/
module

public import proofs.«01_k».proof.Defs
public import proofs.«01_k».proof.Proof.Frames
public import proofs.«01_k».proof.Proof.KernelVal
public import proofs.«01_k».proof.Proof.RefLoop
public import proofs.«01_k».proof.Proof.PreVal

@[expose] public section

set_option maxRecDepth 16384

noncomputable section

namespace Cert.Proof

open Idealize.ShloMosaic Idealize.SL.Sem Cert.Rec
open Cert.KernelIdeal.Value (G10 G11 G12)

/-- From memories that agree on the arguments, which are as the precondition asks, both programs end with the kernel's arrays. -/
theorem algebraicKernelIdealReferenceIdeal :
    algebraic_KernelIdeal_ReferenceIdeal_pre_inputs_ok (hKernelIdeal := Cert.KernelIdeal.Gen.facts) (hReferenceIdeal := Cert.ReferenceIdeal.Gen.facts)
      (hPre_inputs_ok := preFacts) := by
  intro m g m' g' hpre hargs
  have ok : ∀ c, (Cert.KernelIdeal.Step.arr m c).Ok := fun c => by
    letI := preFacts
    exact ok_of_pre (Cert.KernelIdeal.Step.arr m c) (hpre c)
  have same : ∀ c, Cert.ReferenceIdeal.Trip.arr m' c = Cert.KernelIdeal.Step.arr m c := fun c => by
    obtain ⟨h0, h1, h2, h3, h4, h5, h6, h7, h8, h9⟩ := hargs c
    unfold Cert.ReferenceIdeal.Trip.arr Cert.KernelIdeal.Step.arr
    exact Arrays.mk.injEq _ _ _ _ _ _ _ _ _ _ _ _ _ _ _ _ _ _ _ _ ▸ ⟨h0, h1, h2, h3, h4, h5, h6, h7, h8, h9⟩
  have ok' : ∀ c, (Cert.ReferenceIdeal.Trip.arr m' c).Ok := fun c => (same c).symm ▸ ok c
  refine ⟨fun c => G10 m c, fun c => G12 m c, fun c => G11 m c, ?_, ?_⟩
  · refine (θ_run _ _ _).mono (fun r h c => ?_) (Cert.KernelIdeal.Value.run m g)
    obtain ⟨h0, h1, h2, hr⟩ := h c
    exact ⟨h0, h2, h1, hr⟩
  · refine (θ_run _ _ _).mono (fun r h c => ?_) (Cert.ReferenceIdeal.Value.run m' g')
    obtain ⟨h0, h1, h2, hr⟩ := h c
    refine ⟨h0.trans ?_, h1.trans ?_, h2.trans ?_, hr⟩
    · funext i
      obtain ⟨n, b, o, rfl⟩ : ∃ (n : Fin 512) (b : Fin 32) (o : Fin 128), i = ix3 n b o := ⟨i 0, i 1, i 2, eq_ix3 i⟩
      refine (Cert.ReferenceIdeal.Trip.outs_apply (ok' c) n b o).trans ?_
      rw [same c]
      exact (Cert.KernelIdeal.Step.G10_apply (ok c) n b o).symm
    · funext i
      obtain ⟨k, j, rfl⟩ : ∃ (k : Fin 128) (j : Fin 2048), i = ix2 k j := ⟨i 0, i 1, eq_ix2 i⟩
      refine (Cert.ReferenceIdeal.Trip.memf_apply (ok' c) k j).trans ?_
      rw [same c]
      exact (Cert.KernelIdeal.Step.G12_apply (ok c) k j).symm
    · funext i
      obtain ⟨n, b, r, rfl⟩ : ∃ (n : Fin 512) (b : Fin 32) (r : Fin 2), i = ix3 n b r := ⟨i 0, i 1, i 2, eq_ix3 i⟩
      refine (Cert.ReferenceIdeal.Trip.aggs_apply (ok' c) n b r).trans ?_
      rw [same c]
      exact (Cert.KernelIdeal.Step.G11_apply (ok c) n b r).symm

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Frames
public import proofs.«01_k».proof.Proof.Equal
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, preFacts,
    frameKernel, frameKernelIdeal, frameKernelIdealPre, frameReferenceIdeal, frameReferenceIdealPre, trivial,
    algebraicKernelIdealReferenceIdeal⟩

end Cert.Proof

end
